-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "inv_d" .f32 0x394CCCCD#32 ((1 / 5120 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x6144x5120 : Shape := ⟨3, ![6, 6144, 5120]⟩
abbrev S6x6144x40 : Shape := ⟨3, ![6, 6144, 40]⟩
abbrev S6x5120 : Shape := ⟨2, ![6, 5120]⟩
abbrev S6x1x5120 : Shape := ⟨3, ![6, 1, 5120]⟩
abbrev S6x3x5120 : Shape := ⟨3, ![6, 3, 5120]⟩
abbrev S6x48x3x5120 : Shape := ⟨4, ![6, 48, 3, 5120]⟩
abbrev S1x128x5120 : Shape := ⟨3, ![1, 128, 5120]⟩
abbrev S1x128x40 : Shape := ⟨3, ![1, 128, 40]⟩
abbrev S1x1x5120 : Shape := ⟨3, ![1, 1, 5120]⟩
abbrev S1x3x5120 : Shape := ⟨3, ![1, 3, 5120]⟩
abbrev S1x1x3x5120 : Shape := ⟨4, ![1, 1, 3, 5120]⟩
abbrev S32x5120 : Shape := ⟨2, ![32, 5120]⟩
abbrev S1x32x40 : Shape := ⟨3, ![1, 32, 40]⟩
abbrev S32x40 : Shape := ⟨2, ![32, 40]⟩
abbrev S32x128 : Shape := ⟨2, ![32, 128]⟩
abbrev S1x32x128 : Shape := ⟨3, ![1, 32, 128]⟩
abbrev S32x1 : Shape := ⟨2, ![32, 1]⟩
abbrev S1x1x128 : Shape := ⟨3, ![1, 1, 128]⟩
abbrev S1x128 : Shape := ⟨2, ![1, 128]⟩
abbrev S32 : Shape := ⟨1, ![32]⟩
abbrev S1x1x1x128 : Shape := ⟨4, ![1, 1, 1, 128]⟩
abbrev S128 : Shape := ⟨1, ![128]⟩
abbrev S3x5120 : Shape := ⟨2, ![3, 5120]⟩

abbrev nBuf : Space → Nat
  | .hbm => 12
  | .vmem => 24
  | .smem => 0
  | _ => 0

abbrev bufTy : (tb : Table) → Fin (tcTables nBuf tb) → BufTy
  | .hbm, ⟨0, _⟩ => ⟨S6x6144x5120, .fp8e4m3⟩
  | .hbm, ⟨1, _⟩ => ⟨S6x6144x40, .f32⟩
  | .hbm, ⟨2, _⟩ => ⟨S6x6144x5120, .bf16⟩
  | .hbm, ⟨3, _⟩ => ⟨S6x6144x5120, .fp8e5m2⟩
  | .hbm, ⟨4, _⟩ => ⟨S6x6144x40, .f32⟩
  | .hbm, ⟨5, _⟩ => ⟨S6x6144x5120, .fp8e5m2⟩
  | .hbm, ⟨6, _⟩ => ⟨S6x6144x40, .f32⟩
  | .hbm, ⟨7, _⟩ => ⟨S6x5120, .f32⟩
  | .hbm, ⟨8, _⟩ => ⟨S6x1x5120, .f32⟩
  | .hbm, ⟨9, _⟩ => ⟨S6x6144x5120, .bf16⟩
  | .hbm, ⟨10, _⟩ => ⟨S6x3x5120, .f32⟩
  | .hbm, ⟨11, _⟩ => ⟨S6x48x3x5120, .f32⟩
  | .local _ .vmem, ⟨0, _⟩ => ⟨S1x128x5120, .fp8e4m3⟩
  | .local _ .vmem, ⟨1, _⟩ => ⟨S1x128x5120, .fp8e4m3⟩
  | .local _ .vmem, ⟨2, _⟩ => ⟨S1x128x40, .f32⟩
  | .local _ .vmem, ⟨3, _⟩ => ⟨S1x128x40, .f32⟩
  | .local _ .vmem, ⟨4, _⟩ => ⟨S1x128x5120, .bf16⟩
  | .local _ .vmem, ⟨5, _⟩ => ⟨S1x128x5120, .bf16⟩
  | .local _ .vmem, ⟨6, _⟩ => ⟨S1x128x5120, .fp8e5m2⟩
  | .local _ .vmem, ⟨7, _⟩ => ⟨S1x128x5120, .fp8e5m2⟩
  | .local _ .vmem, ⟨8, _⟩ => ⟨S1x128x40, .f32⟩
  | .local _ .vmem, ⟨9, _⟩ => ⟨S1x128x40, .f32⟩
  | .local _ .vmem, ⟨10, _⟩ => ⟨S1x128x5120, .fp8e5m2⟩
  | .local _ .vmem, ⟨11, _⟩ => ⟨S1x128x5120, .fp8e5m2⟩
  | .local _ .vmem, ⟨12, _⟩ => ⟨S1x128x40, .f32⟩
  | .local _ .vmem, ⟨13, _⟩ => ⟨S1x128x40, .f32⟩
  | .local _ .vmem, ⟨14, _⟩ => ⟨S1x1x5120, .f32⟩
  | .local _ .vmem, ⟨15, _⟩ => ⟨S1x1x5120, .f32⟩
  | .local _ .vmem, ⟨16, _⟩ => ⟨S1x128x5120, .bf16⟩
  | .local _ .vmem, ⟨17, _⟩ => ⟨S1x128x5120, .bf16⟩
  | .local _ .vmem, ⟨18, _⟩ => ⟨S1x3x5120, .f32⟩
  | .local _ .vmem, ⟨19, _⟩ => ⟨S1x3x5120, .f32⟩
  | .local _ .vmem, ⟨20, _⟩ => ⟨S1x1x3x5120, .f32⟩
  | .local _ .vmem, ⟨21, _⟩ => ⟨S1x1x3x5120, .f32⟩
  | .local _ .vmem, ⟨22, _⟩ => ⟨S32x5120, .f32⟩
  | .local _ .vmem, ⟨23, _⟩ => ⟨S32x5120, .f32⟩
  | _, _ => ⟨S6x6144x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![6, 48], ![false, false]⟩

@[reducible] def k0_t1_loop : Scf.Loop 32 :=
  let c0_i32 : BitVec 32 := 0#32
  let c4_i32 : BitVec 32 := 4#32
  let v2 : BitVec 32 := Scalar.addi c0_i32 c4_i32
  let c1_i32 : BitVec 32 := 1#32
  ⟨c0_i32, v2, c1_i32⟩
def k0_mult1 (k0_t1 : Fin k0_t1_loop.trips) : BitVec 32 :=
  let c0_i32_17 : BitVec 32 := 0#32
  let c0_i32 : BitVec 32 := 0#32
  let c1_i32 : BitVec 32 := 1#32
  let arg15 : BitVec 32 := Scf.iv c0_i32 c1_i32 k0_t1
  let c1_i32_16 : BitVec 32 := 1#32
  let v14 : BitVec 32 := Scalar.muli arg15 c1_i32_16
  let v15 : BitVec 32 := Scalar.addi c0_i32_17 v14
  let c32_i32 : BitVec 32 := 32#32
  let v16 : BitVec 32 := Scalar.muli v15 c32_i32
  v16
def k0_off1 (k0_t1 : Fin k0_t1_loop.trips) : Fin 3 → Nat :=
  let c0_18 : Index := 0#32
  let c0_i32_17 : BitVec 32 := 0#32
  let c0_i32 : BitVec 32 := 0#32
  let c1_i32 : BitVec 32 := 1#32
  let arg15 : BitVec 32 := Scf.iv c0_i32 c1_i32 k0_t1
  let c1_i32_16 : BitVec 32 := 1#32
  let v14 : BitVec 32 := Scalar.muli arg15 c1_i32_16
  let v15 : BitVec 32 := Scalar.addi c0_i32_17 v14
  let c32_i32 : BitVec 32 := 32#32
  let v16 : BitVec 32 := Scalar.muli v15 c32_i32
  let v17 : BitVec 32 := v16
  let v18 : Index := Scalar.indexCast v17
  let c0_19 : Index := 0#32
  ![0, v18.toNat, 0]
def k0_off2 (k0_t1 : Fin k0_t1_loop.trips) : Fin 3 → Nat :=
  let c0_26 : Index := 0#32
  let c0_i32_17 : BitVec 32 := 0#32
  let c0_i32 : BitVec 32 := 0#32
  let c1_i32 : BitVec 32 := 1#32
  let arg15 : BitVec 32 := Scf.iv c0_i32 c1_i32 k0_t1
  let c1_i32_16 : BitVec 32 := 1#32
  let v14 : BitVec 32 := Scalar.muli arg15 c1_i32_16
  let v15 : BitVec 32 := Scalar.addi c0_i32_17 v14
  let c32_i32 : BitVec 32 := 32#32
  let v16 : BitVec 32 := Scalar.muli v15 c32_i32
  let v17 : BitVec 32 := v16
  let v29 : Index := Scalar.indexCast v17
  let c0_27 : Index := 0#32
  ![0, v29.toNat, 0]
def k0_off3 (k0_t1 : Fin k0_t1_loop.trips) : Fin 3 → Nat :=
  let c0_38 : Index := 0#32
  let c0_i32_17 : BitVec 32 := 0#32
  let c0_i32 : BitVec 32 := 0#32
  let c1_i32 : BitVec 32 := 1#32
  let arg15 : BitVec 32 := Scf.iv c0_i32 c1_i32 k0_t1
  let c1_i32_16 : BitVec 32 := 1#32
  let v14 : BitVec 32 := Scalar.muli arg15 c1_i32_16
  let v15 : BitVec 32 := Scalar.addi c0_i32_17 v14
  let c32_i32 : BitVec 32 := 32#32
  let v16 : BitVec 32 := Scalar.muli v15 c32_i32
  let v17 : BitVec 32 := v16
  let v57 : Index := Scalar.indexCast v17
  let c128 : Index := 128#32
  ![0, v57.toNat, 128]
def k0_off4 (k0_t1 : Fin k0_t1_loop.trips) : Fin 3 → Nat :=
  let c0_49 : Index := 0#32
  let c0_i32_17 : BitVec 32 := 0#32
  let c0_i32 : BitVec 32 := 0#32
  let c1_i32 : BitVec 32 := 1#32
  let arg15 : BitVec 32 := Scf.iv c0_i32 c1_i32 k0_t1
  let c1_i32_16 : BitVec 32 := 1#32
  let v14 : BitVec 32 := Scalar.muli arg15 c1_i32_16
  let v15 : BitVec 32 := Scalar.addi c0_i32_17 v14
  let c32_i32 : BitVec 32 := 32#32
  let v16 : BitVec 32 := Scalar.muli v15 c32_i32
  let v17 : BitVec 32 := v16
  let v85 : Index := Scalar.indexCast v17
  let c256 : Index := 256#32
  ![0, v85.toNat, 256]
def k0_off5 (k0_t1 : Fin k0_t1_loop.trips) : Fin 3 → Nat :=
  let c0_60 : Index := 0#32
  let c0_i32_17 : BitVec 32 := 0#32
  let c0_i32 : BitVec 32 := 0#32
  let c1_i32 : BitVec 32 := 1#32
  let arg15 : BitVec 32 := Scf.iv c0_i32 c1_i32 k0_t1
  let c1_i32_16 : BitVec 32 := 1#32
  let v14 : BitVec 32 := Scalar.muli arg15 c1_i32_16
  let v15 : BitVec 32 := Scalar.addi c0_i32_17 v14
  let c32_i32 : BitVec 32 := 32#32
  let v16 : BitVec 32 := Scalar.muli v15 c32_i32
  let v17 : BitVec 32 := v16
  let v113 : Index := Scalar.indexCast v17
  let c384 : Index := 384#32
  ![0, v113.toNat, 384]
def k0_off6 (k0_t1 : Fin k0_t1_loop.trips) : Fin 3 → Nat :=
  let c0_71 : Index := 0#32
  let c0_i32_17 : BitVec 32 := 0#32
  let c0_i32 : BitVec 32 := 0#32
  let c1_i32 : BitVec 32 := 1#32
  let arg15 : BitVec 32 := Scf.iv c0_i32 c1_i32 k0_t1
  let c1_i32_16 : BitVec 32 := 1#32
  let v14 : BitVec 32 := Scalar.muli arg15 c1_i32_16
  let v15 : BitVec 32 := Scalar.addi c0_i32_17 v14
  let c32_i32 : BitVec 32 := 32#32
  let v16 : BitVec 32 := Scalar.muli v15 c32_i32
  let v17 : BitVec 32 := v16
  let v141 : Index := Scalar.indexCast v17
  let c512 : Index := 512#32
  ![0, v141.toNat, 512]
def k0_off7 (k0_t1 : Fin k0_t1_loop.trips) : Fin 3 → Nat :=
  let c0_82 : Index := 0#32
  let c0_i32_17 : BitVec 32 := 0#32
  let c0_i32 : BitVec 32 := 0#32
  let c1_i32 : BitVec 32 := 1#32
  let arg15 : BitVec 32 := Scf.iv c0_i32 c1_i32 k0_t1
  let c1_i32_16 : BitVec 32 := 1#32
  let v14 : BitVec 32 := Scalar.muli arg15 c1_i32_16
  let v15 : BitVec 32 := Scalar.addi c0_i32_17 v14
  let c32_i32 : BitVec 32 := 32#32
  let v16 : BitVec 32 := Scalar.muli v15 c32_i32
  let v17 : BitVec 32 := v16
  let v169 : Index := Scalar.indexCast v17
  let c640 : Index := 640#32
  ![0, v169.toNat, 640]
def k0_off8 (k0_t1 : Fin k0_t1_loop.trips) : Fin 3 → Nat :=
  let c0_93 : Index := 0#32
  let c0_i32_17 : BitVec 32 := 0#32
  let c0_i32 : BitVec 32 := 0#32
  let c1_i32 : BitVec 32 := 1#32
  let arg15 : BitVec 32 := Scf.iv c0_i32 c1_i32 k0_t1
  let c1_i32_16 : BitVec 32 := 1#32
  let v14 : BitVec 32 := Scalar.muli arg15 c1_i32_16
  let v15 : BitVec 32 := Scalar.addi c0_i32_17 v14
  let c32_i32 : BitVec 32 := 32#32
  let v16 : BitVec 32 := Scalar.muli v15 c32_i32
  let v17 : BitVec 32 := v16
  let v197 : Index := Scalar.indexCast v17
  let c768 : Index := 768#32
  ![0, v197.toNat, 768]
def k0_off9 (k0_t1 : Fin k0_t1_loop.trips) : Fin 3 → Nat :=
  let c0_104 : Index := 0#32
  let c0_i32_17 : BitVec 32 := 0#32
  let c0_i32 : BitVec 32 := 0#32
  let c1_i32 : BitVec 32 := 1#32
  let arg15 : BitVec 32 := Scf.iv c0_i32 c1_i32 k0_t1
  let c1_i32_16 : BitVec 32 := 1#32
  let v14 : BitVec 32 := Scalar.muli arg15 c1_i32_16
  let v15 : BitVec 32 := Scalar.addi c0_i32_17 v14
  let c32_i32 : BitVec 32 := 32#32
  let v16 : BitVec 32 := Scalar.muli v15 c32_i32
  let v17 : BitVec 32 := v16
  let v225 : Index := Scalar.indexCast v17
  let c896 : Index := 896#32
  ![0, v225.toNat, 896]
def k0_off10 (k0_t1 : Fin k0_t1_loop.trips) : Fin 3 → Nat :=
  let c0_115 : Index := 0#32
  let c0_i32_17 : BitVec 32 := 0#32
  let c0_i32 : BitVec 32 := 0#32
  let c1_i32 : BitVec 32 := 1#32
  let arg15 : BitVec 32 := Scf.iv c0_i32 c1_i32 k0_t1
  let c1_i32_16 : BitVec 32 := 1#32
  let v14 : BitVec 32 := Scalar.muli arg15 c1_i32_16
  let v15 : BitVec 32 := Scalar.addi c0_i32_17 v14
  let c32_i32 : BitVec 32 := 32#32
  let v16 : BitVec 32 := Scalar.muli v15 c32_i32
  let v17 : BitVec 32 := v16
  let v253 : Index := Scalar.indexCast v17
  let c1024 : Index := 1024#32
  ![0, v253.toNat, 1024]
def k0_off11 (k0_t1 : Fin k0_t1_loop.trips) : Fin 3 → Nat :=
  let c0_126 : Index := 0#32
  let c0_i32_17 : BitVec 32 := 0#32
  let c0_i32 : BitVec 32 := 0#32
  let c1_i32 : BitVec 32 := 1#32
  let arg15 : BitVec 32 := Scf.iv c0_i32 c1_i32 k0_t1
  let c1_i32_16 : BitVec 32 := 1#32
  let v14 : BitVec 32 := Scalar.muli arg15 c1_i32_16
  let v15 : BitVec 32 := Scalar.addi c0_i32_17 v14
  let c32_i32 : BitVec 32 := 32#32
  let v16 : BitVec 32 := Scalar.muli v15 c32_i32
  let v17 : BitVec 32 := v16
  let v281 : Index := Scalar.indexCast v17
  let c1152 : Index := 1152#32
  ![0, v281.toNat, 1152]
def k0_off12 (k0_t1 : Fin k0_t1_loop.trips) : Fin 3 → Nat :=
  let c0_137 : Index := 0#32
  let c0_i32_17 : BitVec 32 := 0#32
  let c0_i32 : BitVec 32 := 0#32
  let c1_i32 : BitVec 32 := 1#32
  let arg15 : BitVec 32 := Scf.iv c0_i32 c1_i32 k0_t1
  let c1_i32_16 : BitVec 32 := 1#32
  let v14 : BitVec 32 := Scalar.muli arg15 c1_i32_16
  let v15 : BitVec 32 := Scalar.addi c0_i32_17 v14
  let c32_i32 : BitVec 32 := 32#32
  let v16 : BitVec 32 := Scalar.muli v15 c32_i32
  let v17 : BitVec 32 := v16
  let v309 : Index := Scalar.indexCast v17
  let c1280 : Index := 1280#32
  ![0, v309.toNat, 1280]
def k0_off13 (k0_t1 : Fin k0_t1_loop.trips) : Fin 3 → Nat :=
  let c0_148 : Index := 0#32
  let c0_i32_17 : BitVec 32 := 0#32
  let c0_i32 : BitVec 32 := 0#32
  let c1_i32 : BitVec 32 := 1#32
  let arg15 : BitVec 32 := Scf.iv c0_i32 c1_i32 k0_t1
  let c1_i32_16 : BitVec 32 := 1#32
  let v14 : BitVec 32 := Scalar.muli arg15 c1_i32_16
  let v15 : BitVec 32 := Scalar.addi c0_i32_17 v14
  let c32_i32 : BitVec 32 := 32#32
  let v16 : BitVec 32 := Scalar.muli v15 c32_i32
  let v17 : BitVec 32 := v16
  let v337 : Index := Scalar.indexCast v17
  let c1408 : Index := 1408#32
  ![0, v337.toNat, 1408]
def k0_off14 (k0_t1 : Fin k0_t1_loop.trips) : Fin 3 → Nat :=
  let c0_159 : Index := 0#32
  let c0_i32_17 : BitVec 32 := 0#32
  let c0_i32 : BitVec 32 := 0#32
  let c1_i32 : BitVec 32 := 1#32
  let arg15 : BitVec 32 := Scf.iv c0_i32 c1_i32 k0_t1
  let c1_i32_16 : BitVec 32 := 1#32
  let v14 : BitVec 32 := Scalar.muli arg15 c1_i32_16
  let v15 : BitVec 32 := Scalar.addi c0_i32_17 v14
  let c32_i32 : BitVec 32 := 32#32
  let v16 : BitVec 32 := Scalar.muli v15 c32_i32
  let v17 : BitVec 32 := v16
  let v365 : Index := Scalar.indexCast v17
  let c1536 : Index := 1536#32
  ![0, v365.toNat, 1536]
def k0_off15 (k0_t1 : Fin k0_t1_loop.trips) : Fin 3 → Nat :=
  let c0_170 : Index := 0#32
  let c0_i32_17 : BitVec 32 := 0#32
  let c0_i32 : BitVec 32 := 0#32
  let c1_i32 : BitVec 32 := 1#32
  let arg15 : BitVec 32 := Scf.iv c0_i32 c1_i32 k0_t1
  let c1_i32_16 : BitVec 32 := 1#32
  let v14 : BitVec 32 := Scalar.muli arg15 c1_i32_16
  let v15 : BitVec 32 := Scalar.addi c0_i32_17 v14
  let c32_i32 : BitVec 32 := 32#32
  let v16 : BitVec 32 := Scalar.muli v15 c32_i32
  let v17 : BitVec 32 := v16
  let v393 : Index := Scalar.indexCast v17
  let c1664 : Index := 1664#32
  ![0, v393.toNat, 1664]
def k0_off16 (k0_t1 : Fin k0_t1_loop.trips) : Fin 3 → Nat :=
  let c0_181 : Index := 0#32
  let c0_i32_17 : BitVec 32 := 0#32
  let c0_i32 : BitVec 32 := 0#32
  let c1_i32 : BitVec 32 := 1#32
  let arg15 : BitVec 32 := Scf.iv c0_i32 c1_i32 k0_t1
  let c1_i32_16 : BitVec 32 := 1#32
  let v14 : BitVec 32 := Scalar.muli arg15 c1_i32_16
  let v15 : BitVec 32 := Scalar.addi c0_i32_17 v14
  let c32_i32 : BitVec 32 := 32#32
  let v16 : BitVec 32 := Scalar.muli v15 c32_i32
  let v17 : BitVec 32 := v16
  let v421 : Index := Scalar.indexCast v17
  let c1792 : Index := 1792#32
  ![0, v421.toNat, 1792]
def k0_off17 (k0_t1 : Fin k0_t1_loop.trips) : Fin 3 → Nat :=
  let c0_192 : Index := 0#32
  let c0_i32_17 : BitVec 32 := 0#32
  let c0_i32 : BitVec 32 := 0#32
  let c1_i32 : BitVec 32 := 1#32
  let arg15 : BitVec 32 := Scf.iv c0_i32 c1_i32 k0_t1
  let c1_i32_16 : BitVec 32 := 1#32
  let v14 : BitVec 32 := Scalar.muli arg15 c1_i32_16
  let v15 : BitVec 32 := Scalar.addi c0_i32_17 v14
  let c32_i32 : BitVec 32 := 32#32
  let v16 : BitVec 32 := Scalar.muli v15 c32_i32
  let v17 : BitVec 32 := v16
  let v449 : Index := Scalar.indexCast v17
  let c1920 : Index := 1920#32
  ![0, v449.toNat, 1920]
def k0_off18 (k0_t1 : Fin k0_t1_loop.trips) : Fin 3 → Nat :=
  let c0_203 : Index := 0#32
  let c0_i32_17 : BitVec 32 := 0#32
  let c0_i32 : BitVec 32 := 0#32
  let c1_i32 : BitVec 32 := 1#32
  let arg15 : BitVec 32 := Scf.iv c0_i32 c1_i32 k0_t1
  let c1_i32_16 : BitVec 32 := 1#32
  let v14 : BitVec 32 := Scalar.muli arg15 c1_i32_16
  let v15 : BitVec 32 := Scalar.addi c0_i32_17 v14
  let c32_i32 : BitVec 32 := 32#32
  let v16 : BitVec 32 := Scalar.muli v15 c32_i32
  let v17 : BitVec 32 := v16
  let v477 : Index := Scalar.indexCast v17
  let c2048 : Index := 2048#32
  ![0, v477.toNat, 2048]
def k0_off19 (k0_t1 : Fin k0_t1_loop.trips) : Fin 3 → Nat :=
  let c0_214 : Index := 0#32
  let c0_i32_17 : BitVec 32 := 0#32
  let c0_i32 : BitVec 32 := 0#32
  let c1_i32 : BitVec 32 := 1#32
  let arg15 : BitVec 32 := Scf.iv c0_i32 c1_i32 k0_t1
  let c1_i32_16 : BitVec 32 := 1#32
  let v14 : BitVec 32 := Scalar.muli arg15 c1_i32_16
  let v15 : BitVec 32 := Scalar.addi c0_i32_17 v14
  let c32_i32 : BitVec 32 := 32#32
  let v16 : BitVec 32 := Scalar.muli v15 c32_i32
  let v17 : BitVec 32 := v16
  let v505 : Index := Scalar.indexCast v17
  let c2176 : Index := 2176#32
  ![0, v505.toNat, 2176]
def k0_off20 (k0_t1 : Fin k0_t1_loop.trips) : Fin 3 → Nat :=
  let c0_225 : Index := 0#32
  let c0_i32_17 : BitVec 32 := 0#32
  let c0_i32 : BitVec 32 := 0#32
  let c1_i32 : BitVec 32 := 1#32
  let arg15 : BitVec 32 := Scf.iv c0_i32 c1_i32 k0_t1
  let c1_i32_16 : BitVec 32 := 1#32
  let v14 : BitVec 32 := Scalar.muli arg15 c1_i32_16
  let v15 : BitVec 32 := Scalar.addi c0_i32_17 v14
  let c32_i32 : BitVec 32 := 32#32
  let v16 : BitVec 32 := Scalar.muli v15 c32_i32
  let v17 : BitVec 32 := v16
  let v533 : Index := Scalar.indexCast v17
  let c2304 : Index := 2304#32
  ![0, v533.toNat, 2304]
def k0_off21 (k0_t1 : Fin k0_t1_loop.trips) : Fin 3 → Nat :=
  let c0_236 : Index := 0#32
  let c0_i32_17 : BitVec 32 := 0#32
  let c0_i32 : BitVec 32 := 0#32
  let c1_i32 : BitVec 32 := 1#32
  let arg15 : BitVec 32 := Scf.iv c0_i32 c1_i32 k0_t1
  let c1_i32_16 : BitVec 32 := 1#32
  let v14 : BitVec 32 := Scalar.muli arg15 c1_i32_16
  let v15 : BitVec 32 := Scalar.addi c0_i32_17 v14
  let c32_i32 : BitVec 32 := 32#32
  let v16 : BitVec 32 := Scalar.muli v15 c32_i32
  let v17 : BitVec 32 := v16
  let v561 : Index := Scalar.indexCast v17
  let c2432 : Index := 2432#32
  ![0, v561.toNat, 2432]
def k0_off22 (k0_t1 : Fin k0_t1_loop.trips) : Fin 3 → Nat :=
  let c0_247 : Index := 0#32
  let c0_i32_17 : BitVec 32 := 0#32
  let c0_i32 : BitVec 32 := 0#32
  let c1_i32 : BitVec 32 := 1#32
  let arg15 : BitVec 32 := Scf.iv c0_i32 c1_i32 k0_t1
  let c1_i32_16 : BitVec 32 := 1#32
  let v14 : BitVec 32 := Scalar.muli arg15 c1_i32_16
  let v15 : BitVec 32 := Scalar.addi c0_i32_17 v14
  let c32_i32 : BitVec 32 := 32#32
  let v16 : BitVec 32 := Scalar.muli v15 c32_i32
  let v17 : BitVec 32 := v16
  let v589 : Index := Scalar.indexCast v17
  let c2560 : Index := 2560#32
  ![0, v589.toNat, 2560]
def k0_off23 (k0_t1 : Fin k0_t1_loop.trips) : Fin 3 → Nat :=
  let c0_258 : Index := 0#32
  let c0_i32_17 : BitVec 32 := 0#32
  let c0_i32 : BitVec 32 := 0#32
  let c1_i32 : BitVec 32 := 1#32
  let arg15 : BitVec 32 := Scf.iv c0_i32 c1_i32 k0_t1
  let c1_i32_16 : BitVec 32 := 1#32
  let v14 : BitVec 32 := Scalar.muli arg15 c1_i32_16
  let v15 : BitVec 32 := Scalar.addi c0_i32_17 v14
  let c32_i32 : BitVec 32 := 32#32
  let v16 : BitVec 32 := Scalar.muli v15 c32_i32
  let v17 : BitVec 32 := v16
  let v617 : Index := Scalar.indexCast v17
  let c2688 : Index := 2688#32
  ![0, v617.toNat, 2688]
def k0_off24 (k0_t1 : Fin k0_t1_loop.trips) : Fin 3 → Nat :=
  let c0_269 : Index := 0#32
  let c0_i32_17 : BitVec 32 := 0#32
  let c0_i32 : BitVec 32 := 0#32
  let c1_i32 : BitVec 32 := 1#32
  let arg15 : BitVec 32 := Scf.iv c0_i32 c1_i32 k0_t1
  let c1_i32_16 : BitVec 32 := 1#32
  let v14 : BitVec 32 := Scalar.muli arg15 c1_i32_16
  let v15 : BitVec 32 := Scalar.addi c0_i32_17 v14
  let c32_i32 : BitVec 32 := 32#32
  let v16 : BitVec 32 := Scalar.muli v15 c32_i32
  let v17 : BitVec 32 := v16
  let v645 : Index := Scalar.indexCast v17
  let c2816 : Index := 2816#32
  ![0, v645.toNat, 2816]
def k0_off25 (k0_t1 : Fin k0_t1_loop.trips) : Fin 3 → Nat :=
  let c0_280 : Index := 0#32
  let c0_i32_17 : BitVec 32 := 0#32
  let c0_i32 : BitVec 32 := 0#32
  let c1_i32 : BitVec 32 := 1#32
  let arg15 : BitVec 32 := Scf.iv c0_i32 c1_i32 k0_t1
  let c1_i32_16 : BitVec 32 := 1#32
  let v14 : BitVec 32 := Scalar.muli arg15 c1_i32_16
  let v15 : BitVec 32 := Scalar.addi c0_i32_17 v14
  let c32_i32 : BitVec 32 := 32#32
  let v16 : BitVec 32 := Scalar.muli v15 c32_i32
  let v17 : BitVec 32 := v16
  let v673 : Index := Scalar.indexCast v17
  let c2944 : Index := 2944#32
  ![0, v673.toNat, 2944]
def k0_off26 (k0_t1 : Fin k0_t1_loop.trips) : Fin 3 → Nat :=
  let c0_291 : Index := 0#32
  let c0_i32_17 : BitVec 32 := 0#32
  let c0_i32 : BitVec 32 := 0#32
  let c1_i32 : BitVec 32 := 1#32
  let arg15 : BitVec 32 := Scf.iv c0_i32 c1_i32 k0_t1
  let c1_i32_16 : BitVec 32 := 1#32
  let v14 : BitVec 32 := Scalar.muli arg15 c1_i32_16
  let v15 : BitVec 32 := Scalar.addi c0_i32_17 v14
  let c32_i32 : BitVec 32 := 32#32
  let v16 : BitVec 32 := Scalar.muli v15 c32_i32
  let v17 : BitVec 32 := v16
  let v701 : Index := Scalar.indexCast v17
  let c3072 : Index := 3072#32
  ![0, v701.toNat, 3072]
def k0_off27 (k0_t1 : Fin k0_t1_loop.trips) : Fin 3 → Nat :=
  let c0_302 : Index := 0#32
  let c0_i32_17 : BitVec 32 := 0#32
  let c0_i32 : BitVec 32 := 0#32
  let c1_i32 : BitVec 32 := 1#32
  let arg15 : BitVec 32 := Scf.iv c0_i32 c1_i32 k0_t1
  let c1_i32_16 : BitVec 32 := 1#32
  let v14 : BitVec 32 := Scalar.muli arg15 c1_i32_16
  let v15 : BitVec 32 := Scalar.addi c0_i32_17 v14
  let c32_i32 : BitVec 32 := 32#32
  let v16 : BitVec 32 := Scalar.muli v15 c32_i32
  let v17 : BitVec 32 := v16
  let v729 : Index := Scalar.indexCast v17
  let c3200 : Index := 3200#32
  ![0, v729.toNat, 3200]
def k0_off28 (k0_t1 : Fin k0_t1_loop.trips) : Fin 3 → Nat :=
  let c0_313 : Index := 0#32
  let c0_i32_17 : BitVec 32 := 0#32
  let c0_i32 : BitVec 32 := 0#32
  let c1_i32 : BitVec 32 := 1#32
  let arg15 : BitVec 32 := Scf.iv c0_i32 c1_i32 k0_t1
  let c1_i32_16 : BitVec 32 := 1#32
  let v14 : BitVec 32 := Scalar.muli arg15 c1_i32_16
  let v15 : BitVec 32 := Scalar.addi c0_i32_17 v14
  let c32_i32 : BitVec 32 := 32#32
  let v16 : BitVec 32 := Scalar.muli v15 c32_i32
  let v17 : BitVec 32 := v16
  let v757 : Index := Scalar.indexCast v17
  let c3328 : Index := 3328#32
  ![0, v757.toNat, 3328]
def k0_off29 (k0_t1 : Fin k0_t1_loop.trips) : Fin 3 → Nat :=
  let c0_324 : Index := 0#32
  let c0_i32_17 : BitVec 32 := 0#32
  let c0_i32 : BitVec 32 := 0#32
  let c1_i32 : BitVec 32 := 1#32
  let arg15 : BitVec 32 := Scf.iv c0_i32 c1_i32 k0_t1
  let c1_i32_16 : BitVec 32 := 1#32
  let v14 : BitVec 32 := Scalar.muli arg15 c1_i32_16
  let v15 : BitVec 32 := Scalar.addi c0_i32_17 v14
  let c32_i32 : BitVec 32 := 32#32
  let v16 : BitVec 32 := Scalar.muli v15 c32_i32
  let v17 : BitVec 32 := v16
  let v785 : Index := Scalar.indexCast v17
  let c3456 : Index := 3456#32
  ![0, v785.toNat, 3456]
def k0_off30 (k0_t1 : Fin k0_t1_loop.trips) : Fin 3 → Nat :=
  let c0_335 : Index := 0#32
  let c0_i32_17 : BitVec 32 := 0#32
  let c0_i32 : BitVec 32 := 0#32
  let c1_i32 : BitVec 32 := 1#32
  let arg15 : BitVec 32 := Scf.iv c0_i32 c1_i32 k0_t1
  let c1_i32_16 : BitVec 32 := 1#32
  let v14 : BitVec 32 := Scalar.muli arg15 c1_i32_16
  let v15 : BitVec 32 := Scalar.addi c0_i32_17 v14
  let c32_i32 : BitVec 32 := 32#32
  let v16 : BitVec 32 := Scalar.muli v15 c32_i32
  let v17 : BitVec 32 := v16
  let v813 : Index := Scalar.indexCast v17
  let c3584 : Index := 3584#32
  ![0, v813.toNat, 3584]
def k0_off31 (k0_t1 : Fin k0_t1_loop.trips) : Fin 3 → Nat :=
  let c0_346 : Index := 0#32
  let c0_i32_17 : BitVec 32 := 0#32
  let c0_i32 : BitVec 32 := 0#32
  let c1_i32 : BitVec 32 := 1#32
  let arg15 : BitVec 32 := Scf.iv c0_i32 c1_i32 k0_t1
  let c1_i32_16 : BitVec 32 := 1#32
  let v14 : BitVec 32 := Scalar.muli arg15 c1_i32_16
  let v15 : BitVec 32 := Scalar.addi c0_i32_17 v14
  let c32_i32 : BitVec 32 := 32#32
  let v16 : BitVec 32 := Scalar.muli v15 c32_i32
  let v17 : BitVec 32 := v16
  let v841 : Index := Scalar.indexCast v17
  let c3712 : Index := 3712#32
  ![0, v841.toNat, 3712]
def k0_off32 (k0_t1 : Fin k0_t1_loop.trips) : Fin 3 → Nat :=
  let c0_357 : Index := 0#32
  let c0_i32_17 : BitVec 32 := 0#32
  let c0_i32 : BitVec 32 := 0#32
  let c1_i32 : BitVec 32 := 1#32
  let arg15 : BitVec 32 := Scf.iv c0_i32 c1_i32 k0_t1
  let c1_i32_16 : BitVec 32 := 1#32
  let v14 : BitVec 32 := Scalar.muli arg15 c1_i32_16
  let v15 : BitVec 32 := Scalar.addi c0_i32_17 v14
  let c32_i32 : BitVec 32 := 32#32
  let v16 : BitVec 32 := Scalar.muli v15 c32_i32
  let v17 : BitVec 32 := v16
  let v869 : Index := Scalar.indexCast v17
  let c3840 : Index := 3840#32
  ![0, v869.toNat, 3840]
def k0_off33 (k0_t1 : Fin k0_t1_loop.trips) : Fin 3 → Nat :=
  let c0_368 : Index := 0#32
  let c0_i32_17 : BitVec 32 := 0#32
  let c0_i32 : BitVec 32 := 0#32
  let c1_i32 : BitVec 32 := 1#32
  let arg15 : BitVec 32 := Scf.iv c0_i32 c1_i32 k0_t1
  let c1_i32_16 : BitVec 32 := 1#32
  let v14 : BitVec 32 := Scalar.muli arg15 c1_i32_16
  let v15 : BitVec 32 := Scalar.addi c0_i32_17 v14
  let c32_i32 : BitVec 32 := 32#32
  let v16 : BitVec 32 := Scalar.muli v15 c32_i32
  let v17 : BitVec 32 := v16
  let v897 : Index := Scalar.indexCast v17
  let c3968 : Index := 3968#32
  ![0, v897.toNat, 3968]
def k0_off34 (k0_t1 : Fin k0_t1_loop.trips) : Fin 3 → Nat :=
  let c0_379 : Index := 0#32
  let c0_i32_17 : BitVec 32 := 0#32
  let c0_i32 : BitVec 32 := 0#32
  let c1_i32 : BitVec 32 := 1#32
  let arg15 : BitVec 32 := Scf.iv c0_i32 c1_i32 k0_t1
  let c1_i32_16 : BitVec 32 := 1#32
  let v14 : BitVec 32 := Scalar.muli arg15 c1_i32_16
  let v15 : BitVec 32 := Scalar.addi c0_i32_17 v14
  let c32_i32 : BitVec 32 := 32#32
  let v16 : BitVec 32 := Scalar.muli v15 c32_i32
  let v17 : BitVec 32 := v16
  let v925 : Index := Scalar.indexCast v17
  let c4096 : Index := 4096#32
  ![0, v925.toNat, 4096]
def k0_off35 (k0_t1 : Fin k0_t1_loop.trips) : Fin 3 → Nat :=
  let c0_390 : Index := 0#32
  let c0_i32_17 : BitVec 32 := 0#32
  let c0_i32 : BitVec 32 := 0#32
  let c1_i32 : BitVec 32 := 1#32
  let arg15 : BitVec 32 := Scf.iv c0_i32 c1_i32 k0_t1
  let c1_i32_16 : BitVec 32 := 1#32
  let v14 : BitVec 32 := Scalar.muli arg15 c1_i32_16
  let v15 : BitVec 32 := Scalar.addi c0_i32_17 v14
  let c32_i32 : BitVec 32 := 32#32
  let v16 : BitVec 32 := Scalar.muli v15 c32_i32
  let v17 : BitVec 32 := v16
  let v953 : Index := Scalar.indexCast v17
  let c4224 : Index := 4224#32
  ![0, v953.toNat, 4224]
def k0_off36 (k0_t1 : Fin k0_t1_loop.trips) : Fin 3 → Nat :=
  let c0_401 : Index := 0#32
  let c0_i32_17 : BitVec 32 := 0#32
  let c0_i32 : BitVec 32 := 0#32
  let c1_i32 : BitVec 32 := 1#32
  let arg15 : BitVec 32 := Scf.iv c0_i32 c1_i32 k0_t1
  let c1_i32_16 : BitVec 32 := 1#32
  let v14 : BitVec 32 := Scalar.muli arg15 c1_i32_16
  let v15 : BitVec 32 := Scalar.addi c0_i32_17 v14
  let c32_i32 : BitVec 32 := 32#32
  let v16 : BitVec 32 := Scalar.muli v15 c32_i32
  let v17 : BitVec 32 := v16
  let v981 : Index := Scalar.indexCast v17
  let c4352 : Index := 4352#32
  ![0, v981.toNat, 4352]
def k0_off37 (k0_t1 : Fin k0_t1_loop.trips) : Fin 3 → Nat :=
  let c0_412 : Index := 0#32
  let c0_i32_17 : BitVec 32 := 0#32
  let c0_i32 : BitVec 32 := 0#32
  let c1_i32 : BitVec 32 := 1#32
  let arg15 : BitVec 32 := Scf.iv c0_i32 c1_i32 k0_t1
  let c1_i32_16 : BitVec 32 := 1#32
  let v14 : BitVec 32 := Scalar.muli arg15 c1_i32_16
  let v15 : BitVec 32 := Scalar.addi c0_i32_17 v14
  let c32_i32 : BitVec 32 := 32#32
  let v16 : BitVec 32 := Scalar.muli v15 c32_i32
  let v17 : BitVec 32 := v16
  let v1009 : Index := Scalar.indexCast v17
  let c4480 : Index := 4480#32
  ![0, v1009.toNat, 4480]
def k0_off38 (k0_t1 : Fin k0_t1_loop.trips) : Fin 3 → Nat :=
  let c0_423 : Index := 0#32
  let c0_i32_17 : BitVec 32 := 0#32
  let c0_i32 : BitVec 32 := 0#32
  let c1_i32 : BitVec 32 := 1#32
  let arg15 : BitVec 32 := Scf.iv c0_i32 c1_i32 k0_t1
  let c1_i32_16 : BitVec 32 := 1#32
  let v14 : BitVec 32 := Scalar.muli arg15 c1_i32_16
  let v15 : BitVec 32 := Scalar.addi c0_i32_17 v14
  let c32_i32 : BitVec 32 := 32#32
  let v16 : BitVec 32 := Scalar.muli v15 c32_i32
  let v17 : BitVec 32 := v16
  let v1037 : Index := Scalar.indexCast v17
  let c4608 : Index := 4608#32
  ![0, v1037.toNat, 4608]
def k0_off39 (k0_t1 : Fin k0_t1_loop.trips) : Fin 3 → Nat :=
  let c0_434 : Index := 0#32
  let c0_i32_17 : BitVec 32 := 0#32
  let c0_i32 : BitVec 32 := 0#32
  let c1_i32 : BitVec 32 := 1#32
  let arg15 : BitVec 32 := Scf.iv c0_i32 c1_i32 k0_t1
  let c1_i32_16 : BitVec 32 := 1#32
  let v14 : BitVec 32 := Scalar.muli arg15 c1_i32_16
  let v15 : BitVec 32 := Scalar.addi c0_i32_17 v14
  let c32_i32 : BitVec 32 := 32#32
  let v16 : BitVec 32 := Scalar.muli v15 c32_i32
  let v17 : BitVec 32 := v16
  let v1065 : Index := Scalar.indexCast v17
  let c4736 : Index := 4736#32
  ![0, v1065.toNat, 4736]
def k0_off40 (k0_t1 : Fin k0_t1_loop.trips) : Fin 3 → Nat :=
  let c0_445 : Index := 0#32
  let c0_i32_17 : BitVec 32 := 0#32
  let c0_i32 : BitVec 32 := 0#32
  let c1_i32 : BitVec 32 := 1#32
  let arg15 : BitVec 32 := Scf.iv c0_i32 c1_i32 k0_t1
  let c1_i32_16 : BitVec 32 := 1#32
  let v14 : BitVec 32 := Scalar.muli arg15 c1_i32_16
  let v15 : BitVec 32 := Scalar.addi c0_i32_17 v14
  let c32_i32 : BitVec 32 := 32#32
  let v16 : BitVec 32 := Scalar.muli v15 c32_i32
  let v17 : BitVec 32 := v16
  let v1093 : Index := Scalar.indexCast v17
  let c4864 : Index := 4864#32
  ![0, v1093.toNat, 4864]
def k0_off41 (k0_t1 : Fin k0_t1_loop.trips) : Fin 3 → Nat :=
  let c0_456 : Index := 0#32
  let c0_i32_17 : BitVec 32 := 0#32
  let c0_i32 : BitVec 32 := 0#32
  let c1_i32 : BitVec 32 := 1#32
  let arg15 : BitVec 32 := Scf.iv c0_i32 c1_i32 k0_t1
  let c1_i32_16 : BitVec 32 := 1#32
  let v14 : BitVec 32 := Scalar.muli arg15 c1_i32_16
  let v15 : BitVec 32 := Scalar.addi c0_i32_17 v14
  let c32_i32 : BitVec 32 := 32#32
  let v16 : BitVec 32 := Scalar.muli v15 c32_i32
  let v17 : BitVec 32 := v16
  let v1121 : Index := Scalar.indexCast v17
  let c4992 : Index := 4992#32
  ![0, v1121.toNat, 4992]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x5120 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x40 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x5120 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x5120 .fp8e5m2 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x40 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x5120 .fp8e5m2 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x40 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x5120 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x128x5120 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x3x5120 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x3x5120 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "inv_d" => some ((1 / 5120 : ℝ) : EReal)
  | _ => none
-- ==== ReferenceIdeal.lean ====
abbrev S6x6144x5120 : Shape := ⟨3, ![6, 6144, 5120]⟩
abbrev S6x6144x40 : Shape := ⟨3, ![6, 6144, 40]⟩
abbrev S6x5120 : Shape := ⟨2, ![6, 5120]⟩
abbrev S6x3x5120 : Shape := ⟨3, ![6, 3, 5120]⟩
abbrev S6x48x3x5120 : Shape := ⟨4, ![6, 48, 3, 5120]⟩
abbrev S6x6144x40x128 : Shape := ⟨4, ![6, 6144, 40, 128]⟩
abbrev S6x6144x40x1 : Shape := ⟨4, ![6, 6144, 40, 1]⟩
abbrev S6x6144 : Shape := ⟨2, ![6, 6144]⟩
abbrev S6x6144x1 : Shape := ⟨3, ![6, 6144, 1]⟩
abbrev S6x1x5120 : Shape := ⟨3, ![6, 1, 5120]⟩
abbrev S6x48x128x5120 : Shape := ⟨4, ![6, 48, 128, 5120]⟩
abbrev S6x48x5120 : Shape := ⟨3, ![6, 48, 5120]⟩
abbrev S6x48x1x5120 : Shape := ⟨4, ![6, 48, 1, 5120]⟩

abbrev nBuf : Space → Nat
  | .hbm => 11
  | .vmem => 11
  | .smem => 0
  | _ => 0

abbrev bufTy : (tb : Table) → Fin (tcTables nBuf tb) → BufTy
  | .hbm, ⟨0, _⟩ => ⟨S6x6144x5120, .fp8e4m3⟩
  | .hbm, ⟨1, _⟩ => ⟨S6x6144x40, .f32⟩
  | .hbm, ⟨2, _⟩ => ⟨S6x6144x5120, .bf16⟩
  | .hbm, ⟨3, _⟩ => ⟨S6x6144x5120, .fp8e5m2⟩
  | .hbm, ⟨4, _⟩ => ⟨S6x6144x40, .f32⟩
  | .hbm, ⟨5, _⟩ => ⟨S6x6144x5120, .fp8e5m2⟩
  | .hbm, ⟨6, _⟩ => ⟨S6x6144x40, .f32⟩
  | .hbm, ⟨7, _⟩ => ⟨S6x5120, .f32⟩
  | .hbm, ⟨8, _⟩ => ⟨S6x6144x5120, .bf16⟩
  | .hbm, ⟨9, _⟩ => ⟨S6x3x5120, .f32⟩
  | .hbm, ⟨10, _⟩ => ⟨S6x48x3x5120, .f32⟩
  | .local _ .vmem, ⟨0, _⟩ => ⟨S6x6144x5120, .fp8e4m3⟩
  | .local _ .vmem, ⟨1, _⟩ => ⟨S6x6144x40, .f32⟩
  | .local _ .vmem, ⟨2, _⟩ => ⟨S6x6144x5120, .bf16⟩
  | .local _ .vmem, ⟨3, _⟩ => ⟨S6x6144x5120, .fp8e5m2⟩
  | .local _ .vmem, ⟨4, _⟩ => ⟨S6x6144x40, .f32⟩
  | .local _ .vmem, ⟨5, _⟩ => ⟨S6x6144x5120, .fp8e5m2⟩
  | .local _ .vmem, ⟨6, _⟩ => ⟨S6x6144x40, .f32⟩
  | .local _ .vmem, ⟨7, _⟩ => ⟨S6x5120, .f32⟩
  | .local _ .vmem, ⟨8, _⟩ => ⟨S6x6144x5120, .bf16⟩
  | .local _ .vmem, ⟨9, _⟩ => ⟨S6x3x5120, .f32⟩
  | .local _ .vmem, ⟨10, _⟩ => ⟨S6x48x3x5120, .f32⟩
  | _, _ => ⟨S6x6144x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S6x6144x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x6144x40 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x6144x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x6144x5120 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x6144x40 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x6144x5120 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x6144x40 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x5120 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6x6144x5120 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6x3x5120 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6x48x3x5120 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.TripValue.lean ====
/- What one trip of the kernel's loop over 32 rows computes, block of 128 channels by block of 128 channels, each value
   stated once for a block number. The trip's inputs are the blocks it loads: the codes' 32 × 128 blocks, the 32 rows
   of the scales, the modulation's 128 channels, and the two scratch buffers' blocks as it reads them back. -/
module

public import proofs.«01_k».proof.Proof.Gen.KernelIdeal.Loops

@[expose] public section

noncomputable section

namespace Cert.Trip

open Cert.KernelIdeal Cert.KernelIdeal.Gen Idealize.ShloMosaic Idealize.ShloMosaic.TcCoe

variable {F : FTy → Type} [FloatOps F] [Named F]

/-- Column `n` of the scales is a column. -/
theorem col_slices {n : Nat} (h : n < 40) : S32x40.Slices ![0, n] S32x1 := by
  refine ⟨rfl, fun a => ?_⟩
  match a with
  | 0 => exact le_rfl
  | 1 => exact h

/-- The 32 rows' scales. -/
def scales (s : Vec F S1x32x40 .f32) : FVec F S32x40 .f32 := shapeCast S32x40 s Facts₀.shapeCasts_S1x32x40_S32x40

/-- Block `n`'s scale of each row, along its 128 channels. -/
def col (s : Vec F S1x32x40 .f32) (n : Nat) (h : n < 40) : FVec F S32x128 .f32 :=
  broadcastTo S32x128 (extractStridedSlice S32x1 ![0, n] (scales s) (col_slices h)) Facts₀.broadcasts_S32x1_S32x128

/-- Block `n` of the activation, dequantised. -/
def deq4 (q : (n : Nat) → n < 40 → Vec F S1x32x128 .fp8e4m3) (s : Vec F S1x32x40 .f32) (n : Nat) (h : n < 40) : FVec F S32x128 .f32 :=
  mulf (extf .f32 (shapeCast S32x128 (q n h) Facts₀.shapeCasts_S1x32x128_S32x128 : FVec F S32x128 .fp8e4m3) Facts₀.bitsLt_fp8e4m3_f32) (col s n h)

/-- Block `n` of a gradient, dequantised. -/
def deq5 (q : (n : Nat) → n < 40 → Vec F S1x32x128 .fp8e5m2) (s : Vec F S1x32x40 .f32) (n : Nat) (h : n < 40) : FVec F S32x128 .f32 :=
  mulf (extf .f32 (shapeCast S32x128 (q n h) Facts₀.shapeCasts_S1x32x128_S32x128 : FVec F S32x128 .fp8e5m2) Facts₀.bitsLt_fp8e5m2_f32) (col s n h)

/-- Block `n` of the branch's output, widened. -/
def wide (f : (n : Nat) → n < 40 → Vec F S1x32x128 .bf16) (n : Nat) (h : n < 40) : FVec F S32x128 .f32 :=
  extf .f32 (shapeCast S32x128 (f n h) Facts₀.shapeCasts_S1x32x128_S32x128 : FVec F S32x128 .bf16) Facts₀.bitsLt_bf16_f32

/-- Block `n` of one plus the modulation, down the 32 rows. -/
def gainBlk (sc : (n : Nat) → n < 40 → Vec F S1x1x128 .f32) (n : Nat) (h : n < 40) : FVec F S32x128 .f32 :=
  broadcastTo S32x128 (addf (broadcast S1x128 (Scalar.ofBits .f32 0x3F800000#32)) (shapeCast S1x128 (sc n h) Facts₀.shapeCasts_S1x1x128_S1x128)) Facts₀.broadcasts_S1x128_S32x128

/-- The sum of the first `n` blocks of `v`, lane by lane, from zero. -/
def acc (v : (n : Nat) → n < 40 → FVec F S32x128 .f32) : (n : Nat) → n ≤ 40 → FVec F S32x128 .f32
  | 0, _ => broadcast S32x128 (Scalar.ofBits .f32 0x00000000#32)
  | n + 1, h => addf (acc v n (Nat.le_of_succ_le h)) (v n h)

/-- A row's mean over the channels: the lane sums, summed, times `1 / 5120`. -/
def rowMean (a : FVec F S32x128 .f32) : FVec F S32x1 .f32 :=
  mulf (shapeCast S32x1 (multiReduction .add [1] S32 a 0x00000000#32 Facts₀.reduces_S32x128_S32 (.inl rfl) rfl) Facts₀.shapeCasts_S32_S32x1)
    (broadcast S32x1 (Named.named κ "inv_d" 0x394CCCCD#32))

variable (xq : (n : Nat) → n < 40 → Vec F S1x32x128 .fp8e4m3) (xs : Vec F S1x32x40 .f32)
  (hq : (n : Nat) → n < 40 → Vec F S1x32x128 .fp8e5m2) (hs : Vec F S1x32x40 .f32)
  (sc : (n : Nat) → n < 40 → Vec F S1x1x128 .f32)
  (xr hr : (n : Nat) → n < 40 → Vec F S32x128 .f32)

/-- The rows' means. -/
def mu : FVec F S32x1 .f32 := rowMean (acc (deq4 xq xs) 40 le_rfl)

/-- The means of the gradient scaled by the modulation. -/
def gm : FVec F S32x1 .f32 := rowMean (acc (fun n h => mulf (deq5 hq hs n h) (gainBlk sc n h)) 40 le_rfl)

/-- Block `n` of the activation, read back and centred. -/
def cenBlk (n : Nat) (h : n < 40) : FVec F S32x128 .f32 :=
  subf (xr n h) (broadcastTo S32x128 (mu xq xs) Facts₀.broadcasts_S32x1_S32x128)

/-- Block `n` of the gradient, read back and scaled by the modulation. -/
def gBlk (n : Nat) (h : n < 40) : FVec F S32x128 .f32 := mulf (hr n h) (gainBlk sc n h)

/-- The rows' reciprocal deviations. -/
def rsd : FVec F S32x1 .f32 :=
  rsqrt (addf (rowMean (acc (fun n h => mulf (cenBlk xq xs xr n h) (cenBlk xq xs xr n h)) 40 le_rfl))
    (broadcast S32x1 (Scalar.ofBits .f32 0x358637BD#32)))

/-- The means of the scaled gradient against the normalised activation. -/
def gx : FVec F S32x1 .f32 :=
  mulf (rowMean (acc (fun n h => mulf (cenBlk xq xs xr n h) (gBlk sc hr n h)) 40 le_rfl)) (rsd xq xs xr)

/-- Block `n` of the normalised activation. -/
def hatBlk (n : Nat) (h : n < 40) : FVec F S32x128 .f32 :=
  mulf (cenBlk xq xs xr n h) (broadcastTo S32x128 (rsd xq xs xr) Facts₀.broadcasts_S32x1_S32x128)

variable (yq : (n : Nat) → n < 40 → Vec F S1x32x128 .fp8e5m2) (ys : Vec F S1x32x40 .f32)
  (f : (n : Nat) → n < 40 → Vec F S1x32x128 .bf16)

/-- Block `n` of the rows' input gradient, as stored. -/
def dxBlk (n : Nat) (h : n < 40) : FVec F S1x32x128 .bf16 :=
  shapeCast S1x32x128 (truncf .bf16
    (addf (deq5 yq ys n h)
      (mulf (broadcastTo S32x128 (rsd xq xs xr) Facts₀.broadcasts_S32x1_S32x128)
        (subf (subf (gBlk sc hr n h) (broadcastTo S32x128 (gm hq hs sc) Facts₀.broadcasts_S32x1_S32x128))
          (mulf (hatBlk xq xs xr n h) (broadcastTo S32x128 (gx xq xs sc xr hr) Facts₀.broadcasts_S32x1_S32x128)))))
    Facts₀.bitsLt_bf16_f32 : FVec F S32x128 .bf16) Facts₀.shapeCasts_S32x128_S1x32x128

/-- The 32 rows of `v` summed onto what a row of the block sums held. -/
def sumOnto (p : Vec F S1x1x1x128 .f32) (v : FVec F S32x128 .f32) : FVec F S1x1x1x128 .f32 :=
  shapeCast S1x1x1x128
    (addf (shapeCast S1x128 p Facts₀.shapeCasts_S1x1x1x128_S1x128)
      (shapeCast S1x128 (multiReduction .add [0] S128 v 0x00000000#32 Facts₀.reduces_S32x128_S128 (.inl rfl) rfl) Facts₀.shapeCasts_S128_S1x128))
    Facts₀.shapeCasts_S1x128_S1x1x1x128

end Cert.Trip

end
-- ==== Proof.Trip.lean ====
/- One trip of the kernel's loop over 32 rows stores block `n`'s values, for every block `n`: the lists of stores the
   trip was found to make, against lists written by recursion on the block number. -/
module

public import proofs.«01_k».proof.Proof.TripValue

@[expose] public section

-- the lists hold 40 and 120 stores, compared one inside the other
set_option maxRecDepth 65536

noncomputable section

namespace Cert.Trip

open Cert.KernelIdeal Cert.KernelIdeal.Gen Idealize.ShloMosaic Idealize.ShloMosaic.TcCoe Idealize.ShloMosaic.Tactic

variable {F : FTy → Type} [FloatOps F] [Named F]

/-- Block `n` of 128 channels ends inside the 5120. -/
theorem lane_le {n : Nat} (h : n < 40) : 128 * n + 128 ≤ 5120 := by omega

/-- Where block `n` of the channels of trip `k`'s 32 rows starts. -/
def off3 (k : Fin k0_t1_loop.trips) (n : Nat) : Fin 3 → Nat := ![0, k0_off2 k 1, 128 * n]

/-- Block `n` of a trip's rows lies inside the block of tokens. -/
theorem off3_inb (k : Fin k0_t1_loop.trips) {n : Nat} (h : n < 40) (a : Fin 3) :
    off3 k n a + S1x32x128.size a ≤ S1x128x5120.size a := by
  have h2 := Gen.k0_off2_inb k
  match a with
  | 0 => exact h2 0
  | 1 => exact h2 1
  | 2 => exact lane_le h

/-- Block `n` of a scratch buffer lies inside it. -/
theorem off2_inb {n : Nat} (h : n < 40) (a : Fin 2) :
    (![0, 128 * n] : Fin 2 → Nat) a + S32x128.size a ≤ S32x5120.size a := by
  match a with
  | 0 => exact le_rfl
  | 1 => exact lane_le h

/-- Block `n` of the modulation's scale lies inside it. -/
theorem offm_inb {n : Nat} (h : n < 40) (a : Fin 3) :
    (![0, 0, 128 * n] : Fin 3 → Nat) a + S1x1x128.size a ≤ S1x1x5120.size a := by
  match a with
  | 0 => exact le_rfl
  | 1 => exact le_rfl
  | 2 => exact lane_le h

/-- Row `r`, block `n` of the block sums lies inside them. -/
theorem offb_inb {n r : Nat} (h : n < 40) (hr : r < 3) (a : Fin 4) :
    (![0, 0, r, 128 * n] : Fin 4 → Nat) a + S1x1x1x128.size a ≤ S1x1x3x5120.size a := by
  match a with
  | 0 => exact le_rfl
  | 1 => exact le_rfl
  | 2 => exact hr
  | 3 => exact lane_le h

/-- The stores of `v`'s first `n` blocks into a scratch buffer, last first. -/
def keepL (v : (n : Nat) → n < 40 → FVec F S32x128 .f32) : (n : Nat) → n ≤ 40 → List (View.Piece (Elt F) S32x5120 .f32)
  | 0, _ => []
  | n + 1, h => ⟨Rect.unit ![0, 128 * n] S32x128.size (off2_inb h),
      shapeCast S32x128 (v n h) Facts₀.shapeCasts_S32x128_S32x128⟩ :: keepL v n (Nat.le_of_succ_le h)

/-- The stores of `v`'s first `n` blocks into trip `k`'s rows of the input gradient, last first. -/
def dxL (k : Fin k0_t1_loop.trips) (v : (n : Nat) → n < 40 → FVec F S1x32x128 .bf16) :
    (n : Nat) → n ≤ 40 → List (View.Piece (Elt F) S1x128x5120 .bf16)
  | 0, _ => []
  | n + 1, h => ⟨Rect.unit (off3 k n) S1x32x128.size (off3_inb k h), v n h⟩ :: dxL k v n (Nat.le_of_succ_le h)

/-- The stores of the first `n` blocks into the block sums, three rows a block, last first. -/
def sumL (v0 v1 v2 : (n : Nat) → n < 40 → FVec F S1x1x1x128 .f32) :
    (n : Nat) → n ≤ 40 → List (View.Piece (Elt F) S1x1x3x5120 .f32)
  | 0, _ => []
  | n + 1, h =>
      ⟨Rect.unit ![0, 0, 2, 128 * n] S1x1x1x128.size (offb_inb h (by decide)), v2 n h⟩ ::
      ⟨Rect.unit ![0, 0, 1, 128 * n] S1x1x1x128.size (offb_inb h (by decide)), v1 n h⟩ ::
      ⟨Rect.unit ![0, 0, 0, 128 * n] S1x1x1x128.size (offb_inb h (by decide)), v0 n h⟩ :: sumL v0 v1 v2 n (Nat.le_of_succ_le h)

section
variable (arg2 : Memref sig .tc .vmem S1x128x5120 .fp8e4m3) (arg3 : Memref sig .tc .vmem S1x128x40 .f32)
  (X_arg2 : BufTy.Contents (Elt F) arg2.view.ty) (X_arg3 : BufTy.Contents (Elt F) arg3.view.ty) (k : Fin k0_t1_loop.trips)

/-- Block `n` of trip `k`'s rows, as loaded. -/
def rd3 {e : EltTy} (a : Memref sig .tc .vmem S1x128x5120 e) (X : BufTy.Contents (Elt F) a.view.ty)
    (n : Nat) (h : n < 40) : Vec F S1x32x128 e :=
  View.readAt (Elt F) a.view (Rect.unit (s := S1x128x5120) (off3 k n) S1x32x128.size (off3_inb k h)).toLoadRect X

/-- Trip `k`'s rows of the scales, as loaded. -/
def rdS (a : Memref sig .tc .vmem S1x128x40 .f32) (X : BufTy.Contents (Elt F) a.view.ty) : Vec F S1x32x40 .f32 :=
  View.readAt (Elt F) a.view (Rect.unit (s := S1x128x40) (k0_off1 k) S1x32x40.size (Gen.k0_off1_inb k)).toLoadRect X

end

section
variable (𝒱 : Variants) (c : Dev nD) (bd : Option 𝒱.V) (i : grid0.Coords)
  (arg2 : Memref sig .tc .vmem S1x128x5120 .fp8e4m3) (harg2 : arg2.IsWhole)
  (arg3 : Memref sig .tc .vmem S1x128x40 .f32) (harg3 : arg3.IsWhole)
  (arg4 : Memref sig .tc .vmem S1x128x5120 .bf16) (harg4 : arg4.IsWhole)
  (arg5 : Memref sig .tc .vmem S1x128x5120 .fp8e5m2) (harg5 : arg5.IsWhole)
  (arg6 : Memref sig .tc .vmem S1x128x40 .f32) (harg6 : arg6.IsWhole)
  (arg7 : Memref sig .tc .vmem S1x128x5120 .fp8e5m2) (harg7 : arg7.IsWhole)
  (arg8 : Memref sig .tc .vmem S1x128x40 .f32) (harg8 : arg8.IsWhole)
  (arg9 : Memref sig .tc .vmem S1x1x5120 .f32) (harg9 : arg9.IsWhole)
  (arg10 : Memref sig .tc .vmem S1x128x5120 .bf16) (harg10 : arg10.IsWhole)
  (arg11 : Memref sig .tc .vmem S1x3x5120 .f32) (harg11 : arg11.IsWhole)
  (arg12 : Memref sig .tc .vmem S1x1x3x5120 .f32) (harg12 : arg12.IsWhole)
  (arg13 : Memref sig .tc .vmem S32x5120 .f32) (harg13 : arg13.IsWhole)
  (arg14 : Memref sig .tc .vmem S32x5120 .f32) (harg14 : arg14.IsWhole)
  (X_arg2 : BufTy.Contents (Elt F) arg2.view.ty) (X_arg3 : BufTy.Contents (Elt F) arg3.view.ty)
  (X_arg4 : BufTy.Contents (Elt F) arg4.view.ty) (X_arg5 : BufTy.Contents (Elt F) arg5.view.ty)
  (X_arg6 : BufTy.Contents (Elt F) arg6.view.ty) (X_arg7 : BufTy.Contents (Elt F) arg7.view.ty)
  (X_arg8 : BufTy.Contents (Elt F) arg8.view.ty) (X_arg9 : BufTy.Contents (Elt F) arg9.view.ty)
  (k : Fin k0_t1_loop.trips)
  (f_arg10 : BufTy.Contents (Elt F) arg10.view.ty) (f_arg12 : BufTy.Contents (Elt F) arg12.view.ty)
  (f_arg13 : BufTy.Contents (Elt F) arg13.view.ty) (f_arg14 : BufTy.Contents (Elt F) arg14.view.ty)

/-- Block `n` of the modulation, as loaded. -/
def rdM (n : Nat) (h : n < 40) : Vec F S1x1x128 .f32 :=
  View.readAt (Elt F) arg9.view (Rect.unit (s := S1x1x5120) ![0, 0, 128 * n] S1x1x128.size (offm_inb h)).toLoadRect X_arg9

/-- Block `n` of what a scratch buffer holds once `v`'s 40 blocks are stored, read back. -/
def back (a : Memref sig .tc .vmem S32x5120 .f32) (v : (n : Nat) → n < 40 → FVec F S32x128 .f32) (n : Nat) (h : n < 40) : Vec F S32x128 .f32 :=
  a.view.readCov (keepL v 40 le_rfl) (Rect.unit (s := S32x5120) ![0, 128 * n] S32x128.size (off2_inb h)).toLoadRect

/-- Row `r`, block `n` of the block sums, as loaded. -/
def rdB (n r : Nat) (hr : r < 3) (h : n < 40) : Vec F S1x1x1x128 .f32 :=
  View.readAt (Elt F) arg12.view (Rect.unit (s := S1x1x3x5120) ![0, 0, r, 128 * n] S1x1x1x128.size (offb_inb h hr)).toLoadRect f_arg12

/-- The trip's activation, as its blocks are kept. -/
abbrev xKeep := deq4 (rd3 k arg2 X_arg2) (rdS k arg3 X_arg3)

/-- The trip's gradient of the modulated activation, as its blocks are kept. -/
abbrev hKeep := deq5 (rd3 k arg7 X_arg7) (rdS k arg8 X_arg8)

/-- The trip's normalised activation, read off the kept blocks. -/
def hatT := hatBlk (rd3 k arg2 X_arg2) (rdS k arg3 X_arg3) (back arg13 (xKeep arg2 arg3 X_arg2 X_arg3 k))

/-- The trip's input gradient. -/
def dxT := dxBlk (rd3 k arg2 X_arg2) (rdS k arg3 X_arg3) (rd3 k arg7 X_arg7) (rdS k arg8 X_arg8) (rdM arg9 X_arg9)
  (back arg13 (xKeep arg2 arg3 X_arg2 X_arg3 k)) (back arg14 (hKeep arg7 arg8 X_arg7 X_arg8 k)) (rd3 k arg5 X_arg5) (rdS k arg6 X_arg6)

/-- The trip's stores into the block sums. -/
def sumT := sumL
  (fun n h => sumOnto (rdB arg12 f_arg12 n 0 (by decide) h) (back arg14 (hKeep arg7 arg8 X_arg7 X_arg8 k) n h))
  (fun n h => sumOnto (rdB arg12 f_arg12 n 1 (by decide) h)
    (mulf (back arg14 (hKeep arg7 arg8 X_arg7 X_arg8 k) n h) (hatT arg2 arg3 arg13 X_arg2 X_arg3 k n h)))
  (fun n h => sumOnto (rdB arg12 f_arg12 n 2 (by decide) h)
    (mulf (deq5 (rd3 k arg5 X_arg5) (rdS k arg6 X_arg6) n h) (wide (rd3 k arg4 X_arg4) n h)))
  40 le_rfl

set_option maxHeartbeats 0 in
/-- The trip keeps the activation's 40 blocks. -/
theorem trip_x : (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 X_arg2 X_arg3 X_arg4 X_arg5 X_arg6 X_arg7 X_arg8 X_arg9 k f_arg10 f_arg12 f_arg13 f_arg14).2.2.1 = keepL (xKeep arg2 arg3 X_arg2 X_arg3 k) 40 le_rfl := by
  sl_kernel_rfl

set_option maxHeartbeats 0 in
/-- The trip keeps the gradient's 40 blocks. -/
theorem trip_h : (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 X_arg2 X_arg3 X_arg4 X_arg5 X_arg6 X_arg7 X_arg8 X_arg9 k f_arg10 f_arg12 f_arg13 f_arg14).2.2.2 = keepL (hKeep arg7 arg8 X_arg7 X_arg8 k) 40 le_rfl := by
  sl_kernel_rfl

set_option maxHeartbeats 0 in
/-- The trip's stores into the input gradient. -/
theorem trip_dx : (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 X_arg2 X_arg3 X_arg4 X_arg5 X_arg6 X_arg7 X_arg8 X_arg9 k f_arg10 f_arg12 f_arg13 f_arg14).1 = dxL k (dxT arg2 arg3 arg5 arg6 arg7 arg8 arg9 arg13 arg14 X_arg2 X_arg3 X_arg5 X_arg6 X_arg7 X_arg8 X_arg9 k) 40 le_rfl := by
  sl_kernel_rfl

set_option maxHeartbeats 0 in
/-- The trip's stores into the block sums. -/
theorem trip_sum : (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 X_arg2 X_arg3 X_arg4 X_arg5 X_arg6 X_arg7 X_arg8 X_arg9 k f_arg10 f_arg12 f_arg13 f_arg14).2.1 = sumT arg2 arg3 arg4 arg5 arg6 arg7 arg8 arg12 arg13 arg14 X_arg2 X_arg3 X_arg4 X_arg5 X_arg6 X_arg7 X_arg8 k f_arg12 := by
  sl_kernel_rfl

end

end Cert.Trip

end
-- ==== Proof.TripLoop.lean ====
/- What the loop's trips store, all together: neither the input gradient's stores nor the block sums' depend on what the
   input gradient's buffer or the two scratch buffers held at the loop's start. -/
module

public import proofs.«01_k».proof.Proof.Trip

@[expose] public section

noncomputable section

namespace Cert.Trip

open Cert.KernelIdeal Cert.KernelIdeal.Gen Idealize.ShloMosaic Idealize.ShloMosaic.TcCoe Idealize.ShloMosaic.Tactic

variable {F : FTy → Type} [FloatOps F] [Named F]

section
variable (𝒱 : Variants) (c : Dev nD) (bd : Option 𝒱.V) (i : grid0.Coords)
  (arg2 : Memref sig .tc .vmem S1x128x5120 .fp8e4m3) (harg2 : arg2.IsWhole)
  (arg3 : Memref sig .tc .vmem S1x128x40 .f32) (harg3 : arg3.IsWhole)
  (arg4 : Memref sig .tc .vmem S1x128x5120 .bf16) (harg4 : arg4.IsWhole)
  (arg5 : Memref sig .tc .vmem S1x128x5120 .fp8e5m2) (harg5 : arg5.IsWhole)
  (arg6 : Memref sig .tc .vmem S1x128x40 .f32) (harg6 : arg6.IsWhole)
  (arg7 : Memref sig .tc .vmem S1x128x5120 .fp8e5m2) (harg7 : arg7.IsWhole)
  (arg8 : Memref sig .tc .vmem S1x128x40 .f32) (harg8 : arg8.IsWhole)
  (arg9 : Memref sig .tc .vmem S1x1x5120 .f32) (harg9 : arg9.IsWhole)
  (arg10 : Memref sig .tc .vmem S1x128x5120 .bf16) (harg10 : arg10.IsWhole)
  (arg11 : Memref sig .tc .vmem S1x3x5120 .f32) (harg11 : arg11.IsWhole)
  (arg12 : Memref sig .tc .vmem S1x1x3x5120 .f32) (harg12 : arg12.IsWhole)
  (arg13 : Memref sig .tc .vmem S32x5120 .f32) (harg13 : arg13.IsWhole)
  (arg14 : Memref sig .tc .vmem S32x5120 .f32) (harg14 : arg14.IsWhole)
  (X_arg2 : BufTy.Contents (Elt F) arg2.view.ty) (X_arg3 : BufTy.Contents (Elt F) arg3.view.ty)
  (X_arg4 : BufTy.Contents (Elt F) arg4.view.ty) (X_arg5 : BufTy.Contents (Elt F) arg5.view.ty)
  (X_arg6 : BufTy.Contents (Elt F) arg6.view.ty) (X_arg7 : BufTy.Contents (Elt F) arg7.view.ty)
  (X_arg8 : BufTy.Contents (Elt F) arg8.view.ty) (X_arg9 : BufTy.Contents (Elt F) arg9.view.ty)
  (G_arg10 : BufTy.Contents (Elt F) arg10.view.ty) (G_arg12 : BufTy.Contents (Elt F) arg12.view.ty)
  (G_arg13 : BufTy.Contents (Elt F) arg13.view.ty) (G_arg14 : BufTy.Contents (Elt F) arg14.view.ty)

/-- The stores of the trips before `n` into the input gradient, last first. -/
def dxAll : Nat → List (View.Piece (Elt F) S1x128x5120 .bf16)
  | 0 => []
  | n + 1 => if h : n < k0_t1_loop.trips then
      dxL ⟨n, h⟩ (dxT arg2 arg3 arg5 arg6 arg7 arg8 arg9 arg13 arg14 X_arg2 X_arg3 X_arg5 X_arg6 X_arg7 X_arg8 X_arg9 ⟨n, h⟩) 40 le_rfl ++ dxAll n
    else dxAll n

/-- The stores of the trips before `n` into the block sums, last first, the block sums holding `G_arg12` at the start. -/
def sumAll : Nat → List (View.Piece (Elt F) S1x1x3x5120 .f32)
  | 0 => []
  | n + 1 => if h : n < k0_t1_loop.trips then
      sumT arg2 arg3 arg4 arg5 arg6 arg7 arg8 arg12 arg13 arg14 X_arg2 X_arg3 X_arg4 X_arg5 X_arg6 X_arg7 X_arg8 ⟨n, h⟩ (arg12.view.writes (Elt F) G_arg12 (sumAll n)) ++ sumAll n
    else sumAll n

/-- The loop's stores are these. -/
theorem pb_eq (n : Nat) (hn : n ≤ k0_t1_loop.trips) :
    (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 X_arg2 X_arg3 X_arg4 X_arg5 X_arg6 X_arg7 X_arg8 X_arg9 G_arg10 G_arg12 G_arg13 G_arg14 n).1 = dxAll arg2 arg3 arg5 arg6 arg7 arg8 arg9 arg13 arg14 X_arg2 X_arg3 X_arg5 X_arg6 X_arg7 X_arg8 X_arg9 n
    ∧ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 X_arg2 X_arg3 X_arg4 X_arg5 X_arg6 X_arg7 X_arg8 X_arg9 G_arg10 G_arg12 G_arg13 G_arg14 n).2.1 = sumAll arg2 arg3 arg4 arg5 arg6 arg7 arg8 arg12 arg13 arg14 X_arg2 X_arg3 X_arg4 X_arg5 X_arg6 X_arg7 X_arg8 G_arg12 n := by
  induction n with
  | zero => exact ⟨rfl, rfl⟩
  | succ n ih =>
    have hn' : n < k0_t1_loop.trips := hn
    obtain ⟨h1, h2⟩ := ih (Nat.le_of_succ_le hn)
    have hs := pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 X_arg2 X_arg3 X_arg4 X_arg5 X_arg6 X_arg7 X_arg8 X_arg9 G_arg10 G_arg12 G_arg13 G_arg14 ⟨n, hn⟩
    constructor
    · refine (congrArg (·.1) hs).trans ((congrArg₂ (· ++ ·) (trip_dx ..) h1).trans ?_)
      rw [dxAll]
      rw [dif_pos hn']
    · refine (congrArg (·.2.1) hs).trans ((congrArg₂ (· ++ ·) (trip_sum ..) h2).trans ?_)
      dsimp only
      rw [h2, sumAll]
      rw [dif_pos hn']

/-- All the trips' stores into the input gradient. -/
theorem pb_dx : (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 X_arg2 X_arg3 X_arg4 X_arg5 X_arg6 X_arg7 X_arg8 X_arg9 G_arg10 G_arg12 G_arg13 G_arg14 (Scf.trips k0_t1_loop.lb k0_t1_loop.ub k0_t1_loop.st)).1
    = dxAll arg2 arg3 arg5 arg6 arg7 arg8 arg9 arg13 arg14 X_arg2 X_arg3 X_arg5 X_arg6 X_arg7 X_arg8 X_arg9 4 :=
  (pb_eq 𝒱 c bd i arg2 harg2 arg3 harg3 arg4 harg4 arg5 harg5 arg6 harg6 arg7 harg7 arg8 harg8 arg9 harg9 arg10 harg10 arg11 harg11 arg12 harg12 arg13 harg13 arg14 harg14 X_arg2 X_arg3 X_arg4 X_arg5 X_arg6 X_arg7 X_arg8 X_arg9 G_arg10 G_arg12 G_arg13 G_arg14 4 (by decide)).1

/-- All the trips' stores into the block sums. -/
theorem pb_sum : (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 X_arg2 X_arg3 X_arg4 X_arg5 X_arg6 X_arg7 X_arg8 X_arg9 G_arg10 G_arg12 G_arg13 G_arg14 (Scf.trips k0_t1_loop.lb k0_t1_loop.ub k0_t1_loop.st)).2.1
    = sumAll arg2 arg3 arg4 arg5 arg6 arg7 arg8 arg12 arg13 arg14 X_arg2 X_arg3 X_arg4 X_arg5 X_arg6 X_arg7 X_arg8 G_arg12 4 :=
  (pb_eq 𝒱 c bd i arg2 harg2 arg3 harg3 arg4 harg4 arg5 harg5 arg6 harg6 arg7 harg7 arg8 harg8 arg9 harg9 arg10 harg10 arg11 harg11 arg12 harg12 arg13 harg13 arg14 harg14 X_arg2 X_arg3 X_arg4 X_arg5 X_arg6 X_arg7 X_arg8 X_arg9 G_arg10 G_arg12 G_arg13 G_arg14 4 (by decide)).2

end

end Cert.Trip

end
-- ==== Proof.RunA.lean ====
/- The kernel's body run at a point that starts a sequence's sum (points 0, 48, …, 240): what each output's buffer ends
   with, as stores. The generated run of the same body (Gen/KernelIdeal/Frame/RunA.lean), with the loop's stores
   rewritten to lists that do not mention what the buffers held before, so that they can be the run's witness. -/
module

public import proofs.«01_k».proof.Proof.Gen.KernelIdeal.Frame.Runs
public import proofs.«01_k».proof.Proof.TripLoop

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken: points 0, 48, 96, 144, 192, 240), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S1x128x5120 .fp8e4m3) (harg2 : arg2.IsWhole) (arg3 : Memref sig .tc .vmem S1x128x40 .f32) (harg3 : arg3.IsWhole) (arg4 : Memref sig .tc .vmem S1x128x5120 .bf16) (harg4 : arg4.IsWhole) (arg5 : Memref sig .tc .vmem S1x128x5120 .fp8e5m2) (harg5 : arg5.IsWhole) (arg6 : Memref sig .tc .vmem S1x128x40 .f32) (harg6 : arg6.IsWhole) (arg7 : Memref sig .tc .vmem S1x128x5120 .fp8e5m2) (harg7 : arg7.IsWhole) (arg8 : Memref sig .tc .vmem S1x128x40 .f32) (harg8 : arg8.IsWhole) (arg9 : Memref sig .tc .vmem S1x1x5120 .f32) (harg9 : arg9.IsWhole) (arg10 : Memref sig .tc .vmem S1x128x5120 .bf16) (harg10 : arg10.IsWhole) (arg11 : Memref sig .tc .vmem S1x3x5120 .f32) (harg11 : arg11.IsWhole) (arg12 : Memref sig .tc .vmem S1x1x3x5120 .f32) (harg12 : arg12.IsWhole) (arg13 : Memref sig .tc .vmem S32x5120 .f32) (harg13 : arg13.IsWhole) (arg14 : Memref sig .tc .vmem S32x5120 .f32) (harg14 : arg14.IsWhole) (hc0 : cond0_0 i)
    (x0 : Vec F S1x128x5120 .fp8e4m3) (x1 : Vec F S1x128x40 .f32) (x2 : Vec F S1x128x5120 .bf16) (x3 : Vec F S1x128x5120 .fp8e5m2) (x4 : Vec F S1x128x40 .f32) (x5 : Vec F S1x128x5120 .fp8e5m2) (x6 : Vec F S1x128x40 .f32) (x7 : Vec F S1x1x5120 .f32) :
    Σ' (L8 : List (View.Piece (Elt F) S1x128x5120 .bf16)), Σ' (L9 : List (View.Piece (Elt F) S1x3x5120 .f32)), { L10 : List (View.Piece (Elt F) S1x1x3x5120 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ d, owns (c : Thread nD τ) arg13 fullShare d) ∗ (∃ d, owns (c : Thread nD τ) arg14 fullShare d)) -∗ K ⟨⟩))
          ⊢ wp frame (wpE (defs₀ (F := F)) Variants.none c none) E (cc0_adaln_bwd i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc0_adaln_bwd_eq_skeleton]; unfold cc0_adaln_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    delta kernelRun0_A.sl.v8
    rw [Cert.Trip.pb_dx, Cert.Trip.pb_sum]
    isplitl [H8]; · iexists _; iexact H8
    isplitl [H9]; · iexists _; iexact H9
    isplitl [H10]; · iexists _; iexact H10
    isplitl [HS0]
    · iexists _, _; isplitr; swap; · iexact HS0
      ipureintro; rfl
    iexists _, _; isplitr; swap; · iexact HS1
    ipureintro; rfl

end Cert.KernelIdeal.Gen

end
-- ==== Proof.RunB.lean ====
/- The kernel's body run at a point that carries a sequence's sum on (every other point): what each output's buffer ends
   with, as stores. The generated run of the same body (Gen/KernelIdeal/Frame/RunB.lean), with the loop's stores
   rewritten as in RunA.lean. -/
module

public import proofs.«01_k».proof.Proof.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 287: 282 of 288), WITH the
    proof that on whole staging memrefs — the inputs' at their contents, the outputs it reads before covering (9) at their running contents `xo·`, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S1x128x5120 .fp8e4m3) (harg2 : arg2.IsWhole) (arg3 : Memref sig .tc .vmem S1x128x40 .f32) (harg3 : arg3.IsWhole) (arg4 : Memref sig .tc .vmem S1x128x5120 .bf16) (harg4 : arg4.IsWhole) (arg5 : Memref sig .tc .vmem S1x128x5120 .fp8e5m2) (harg5 : arg5.IsWhole) (arg6 : Memref sig .tc .vmem S1x128x40 .f32) (harg6 : arg6.IsWhole) (arg7 : Memref sig .tc .vmem S1x128x5120 .fp8e5m2) (harg7 : arg7.IsWhole) (arg8 : Memref sig .tc .vmem S1x128x40 .f32) (harg8 : arg8.IsWhole) (arg9 : Memref sig .tc .vmem S1x1x5120 .f32) (harg9 : arg9.IsWhole) (arg10 : Memref sig .tc .vmem S1x128x5120 .bf16) (harg10 : arg10.IsWhole) (arg11 : Memref sig .tc .vmem S1x3x5120 .f32) (harg11 : arg11.IsWhole) (arg12 : Memref sig .tc .vmem S1x1x3x5120 .f32) (harg12 : arg12.IsWhole) (arg13 : Memref sig .tc .vmem S32x5120 .f32) (harg13 : arg13.IsWhole) (arg14 : Memref sig .tc .vmem S32x5120 .f32) (harg14 : arg14.IsWhole) (hc0 : ¬cond0_0 i)
    (x0 : Vec F S1x128x5120 .fp8e4m3) (x1 : Vec F S1x128x40 .f32) (x2 : Vec F S1x128x5120 .bf16) (x3 : Vec F S1x128x5120 .fp8e5m2) (x4 : Vec F S1x128x40 .f32) (x5 : Vec F S1x128x5120 .fp8e5m2) (x6 : Vec F S1x128x40 .f32) (x7 : Vec F S1x1x5120 .f32) (xo9 : Vec F S1x3x5120 .f32) :
    Σ' (L8 : List (View.Piece (Elt F) S1x128x5120 .bf16)), Σ' (L9 : List (View.Piece (Elt F) S1x3x5120 .f32)), { L10 : List (View.Piece (Elt F) S1x1x3x5120 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xo9 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ d, owns (c : Thread nD τ) arg13 fullShare d) ∗ (∃ d, owns (c : Thread nD τ) arg14 fullShare d)) -∗ K ⟨⟩))
          ⊢ wp frame (wpE (defs₀ (F := F)) Variants.none c none) E (cc0_adaln_bwd i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc0_adaln_bwd_eq_skeleton]; unfold cc0_adaln_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%d10, %f10, -, H10⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    delta kernelRun0_B.sl.v8
    rw [Cert.Trip.pb_dx, Cert.Trip.pb_sum]
    isplitl [H8]; · iexists _; iexact H8
    isplitl [H9]; · iexists _; iexact H9
    isplitl [H10]; · iexists _; iexact H10
    isplitl [HS0]
    · iexists _, _; isplitr; swap; · iexact HS0
      ipureintro; rfl
    iexists _, _; isplitr; swap; · iexact HS1
    ipureintro; rfl

end Cert.KernelIdeal.Gen

end
-- ==== Proof.PointFrame.lean ====
/- The launch's frame over the two runs of RunA.lean and RunB.lean: what the outputs hold point by point, the body's
   obligation, the run and the frame. The text of the generated Gen/KernelIdeal/Frame.lean, over these runs. -/
module

public import proofs.«01_k».proof.Proof.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A's pieces for output 8 tile its block (160 stores of `S1x32x128`, checked by the kernel's evaluation: Lib/Ring.lean `Piece.tiledL`, linear in the pieces, through a loop's `@[irreducible]` trip theorem too), so they cover it. -/
theorem cover0_A_8 (c : Dev nD) (i : grid0.Coords) (arg2 : Memref sig .tc .vmem S1x128x5120 .fp8e4m3) (harg2 : arg2.IsWhole) (arg3 : Memref sig .tc .vmem S1x128x40 .f32) (harg3 : arg3.IsWhole) (arg4 : Memref sig .tc .vmem S1x128x5120 .bf16) (harg4 : arg4.IsWhole) (arg5 : Memref sig .tc .vmem S1x128x5120 .fp8e5m2) (harg5 : arg5.IsWhole) (arg6 : Memref sig .tc .vmem S1x128x40 .f32) (harg6 : arg6.IsWhole) (arg7 : Memref sig .tc .vmem S1x128x5120 .fp8e5m2) (harg7 : arg7.IsWhole) (arg8 : Memref sig .tc .vmem S1x128x40 .f32) (harg8 : arg8.IsWhole) (arg9 : Memref sig .tc .vmem S1x1x5120 .f32) (harg9 : arg9.IsWhole) (arg10 : Memref sig .tc .vmem S1x128x5120 .bf16) (harg10 : arg10.IsWhole) (arg11 : Memref sig .tc .vmem S1x3x5120 .f32) (harg11 : arg11.IsWhole) (arg12 : Memref sig .tc .vmem S1x1x3x5120 .f32) (harg12 : arg12.IsWhole) (arg13 : Memref sig .tc .vmem S32x5120 .f32) (harg13 : arg13.IsWhole) (arg14 : Memref sig .tc .vmem S32x5120 .f32) (harg14 : arg14.IsWhole) (hc0 : cond0_0 i)
    (x0 : Vec F S1x128x5120 .fp8e4m3) (x1 : Vec F S1x128x40 .f32) (x2 : Vec F S1x128x5120 .bf16) (x3 : Vec F S1x128x5120 .fp8e5m2) (x4 : Vec F S1x128x40 .f32) (x5 : Vec F S1x128x5120 .fp8e5m2) (x6 : Vec F S1x128x40 .f32) (x7 : Vec F S1x1x5120 .f32) (y : S1x128x5120.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).1 S1x32x128.size (by sl_kernel_rfl) y

/-- What case A leaves in output 8's staging buffer: its pieces read back over junk. -/
def out0_A_8 (c : Dev nD) (i : grid0.Coords) (arg2 : Memref sig .tc .vmem S1x128x5120 .fp8e4m3) (harg2 : arg2.IsWhole) (arg3 : Memref sig .tc .vmem S1x128x40 .f32) (harg3 : arg3.IsWhole) (arg4 : Memref sig .tc .vmem S1x128x5120 .bf16) (harg4 : arg4.IsWhole) (arg5 : Memref sig .tc .vmem S1x128x5120 .fp8e5m2) (harg5 : arg5.IsWhole) (arg6 : Memref sig .tc .vmem S1x128x40 .f32) (harg6 : arg6.IsWhole) (arg7 : Memref sig .tc .vmem S1x128x5120 .fp8e5m2) (harg7 : arg7.IsWhole) (arg8 : Memref sig .tc .vmem S1x128x40 .f32) (harg8 : arg8.IsWhole) (arg9 : Memref sig .tc .vmem S1x1x5120 .f32) (harg9 : arg9.IsWhole) (arg10 : Memref sig .tc .vmem S1x128x5120 .bf16) (harg10 : arg10.IsWhole) (arg11 : Memref sig .tc .vmem S1x3x5120 .f32) (harg11 : arg11.IsWhole) (arg12 : Memref sig .tc .vmem S1x1x3x5120 .f32) (harg12 : arg12.IsWhole) (arg13 : Memref sig .tc .vmem S32x5120 .f32) (harg13 : arg13.IsWhole) (arg14 : Memref sig .tc .vmem S32x5120 .f32) (harg14 : arg14.IsWhole) (hc0 : cond0_0 i)
    (x0 : Vec F S1x128x5120 .fp8e4m3) (x1 : Vec F S1x128x40 .f32) (x2 : Vec F S1x128x5120 .bf16) (x3 : Vec F S1x128x5120 .fp8e5m2) (x4 : Vec F S1x128x40 .f32) (x5 : Vec F S1x128x5120 .fp8e5m2) (x6 : Vec F S1x128x40 .f32) (x7 : Vec F S1x1x5120 .f32) : Vec F S1x128x5120 .bf16 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).1)

/-- Case A's pieces for output 9 tile its block (2 stores of `S1x3x5120`, checked by the kernel's evaluation: Lib/Ring.lean `Piece.tiledL`, linear in the pieces, through a loop's `@[irreducible]` trip theorem too), so they cover it. -/
theorem cover0_A_9 (c : Dev nD) (i : grid0.Coords) (arg2 : Memref sig .tc .vmem S1x128x5120 .fp8e4m3) (harg2 : arg2.IsWhole) (arg3 : Memref sig .tc .vmem S1x128x40 .f32) (harg3 : arg3.IsWhole) (arg4 : Memref sig .tc .vmem S1x128x5120 .bf16) (harg4 : arg4.IsWhole) (arg5 : Memref sig .tc .vmem S1x128x5120 .fp8e5m2) (harg5 : arg5.IsWhole) (arg6 : Memref sig .tc .vmem S1x128x40 .f32) (harg6 : arg6.IsWhole) (arg7 : Memref sig .tc .vmem S1x128x5120 .fp8e5m2) (harg7 : arg7.IsWhole) (arg8 : Memref sig .tc .vmem S1x128x40 .f32) (harg8 : arg8.IsWhole) (arg9 : Memref sig .tc .vmem S1x1x5120 .f32) (harg9 : arg9.IsWhole) (arg10 : Memref sig .tc .vmem S1x128x5120 .bf16) (harg10 : arg10.IsWhole) (arg11 : Memref sig .tc .vmem S1x3x5120 .f32) (harg11 : arg11.IsWhole) (arg12 : Memref sig .tc .vmem S1x1x3x5120 .f32) (harg12 : arg12.IsWhole) (arg13 : Memref sig .tc .vmem S32x5120 .f32) (harg13 : arg13.IsWhole) (arg14 : Memref sig .tc .vmem S32x5120 .f32) (harg14 : arg14.IsWhole) (hc0 : cond0_0 i)
    (x0 : Vec F S1x128x5120 .fp8e4m3) (x1 : Vec F S1x128x40 .f32) (x2 : Vec F S1x128x5120 .bf16) (x3 : Vec F S1x128x5120 .fp8e5m2) (x4 : Vec F S1x128x40 .f32) (x5 : Vec F S1x128x5120 .fp8e5m2) (x6 : Vec F S1x128x40 .f32) (x7 : Vec F S1x1x5120 .f32) (y : S1x3x5120.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.1 S1x3x5120.size (by sl_kernel_rfl) y

/-- What case A leaves in output 9's staging buffer: its pieces read back over junk. -/
def out0_A_9 (c : Dev nD) (i : grid0.Coords) (arg2 : Memref sig .tc .vmem S1x128x5120 .fp8e4m3) (harg2 : arg2.IsWhole) (arg3 : Memref sig .tc .vmem S1x128x40 .f32) (harg3 : arg3.IsWhole) (arg4 : Memref sig .tc .vmem S1x128x5120 .bf16) (harg4 : arg4.IsWhole) (arg5 : Memref sig .tc .vmem S1x128x5120 .fp8e5m2) (harg5 : arg5.IsWhole) (arg6 : Memref sig .tc .vmem S1x128x40 .f32) (harg6 : arg6.IsWhole) (arg7 : Memref sig .tc .vmem S1x128x5120 .fp8e5m2) (harg7 : arg7.IsWhole) (arg8 : Memref sig .tc .vmem S1x128x40 .f32) (harg8 : arg8.IsWhole) (arg9 : Memref sig .tc .vmem S1x1x5120 .f32) (harg9 : arg9.IsWhole) (arg10 : Memref sig .tc .vmem S1x128x5120 .bf16) (harg10 : arg10.IsWhole) (arg11 : Memref sig .tc .vmem S1x3x5120 .f32) (harg11 : arg11.IsWhole) (arg12 : Memref sig .tc .vmem S1x1x3x5120 .f32) (harg12 : arg12.IsWhole) (arg13 : Memref sig .tc .vmem S32x5120 .f32) (harg13 : arg13.IsWhole) (arg14 : Memref sig .tc .vmem S32x5120 .f32) (harg14 : arg14.IsWhole) (hc0 : cond0_0 i)
    (x0 : Vec F S1x128x5120 .fp8e4m3) (x1 : Vec F S1x128x40 .f32) (x2 : Vec F S1x128x5120 .bf16) (x3 : Vec F S1x128x5120 .fp8e5m2) (x4 : Vec F S1x128x40 .f32) (x5 : Vec F S1x128x5120 .fp8e5m2) (x6 : Vec F S1x128x40 .f32) (x7 : Vec F S1x1x5120 .f32) : Vec F S1x3x5120 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.1)

/-- Case A's pieces for output 10 are of SEVERAL sizes (481 stores of `S1x1x1x128`, `S1x1x3x5120`): cut into blocks of `![1, 1, 1, 128]` they tile its block (checked by the kernel's evaluation: Lib/Ring.lean `Piece.tiledBy`), so they cover it. -/
theorem cover0_A_10 (c : Dev nD) (i : grid0.Coords) (arg2 : Memref sig .tc .vmem S1x128x5120 .fp8e4m3) (harg2 : arg2.IsWhole) (arg3 : Memref sig .tc .vmem S1x128x40 .f32) (harg3 : arg3.IsWhole) (arg4 : Memref sig .tc .vmem S1x128x5120 .bf16) (harg4 : arg4.IsWhole) (arg5 : Memref sig .tc .vmem S1x128x5120 .fp8e5m2) (harg5 : arg5.IsWhole) (arg6 : Memref sig .tc .vmem S1x128x40 .f32) (harg6 : arg6.IsWhole) (arg7 : Memref sig .tc .vmem S1x128x5120 .fp8e5m2) (harg7 : arg7.IsWhole) (arg8 : Memref sig .tc .vmem S1x128x40 .f32) (harg8 : arg8.IsWhole) (arg9 : Memref sig .tc .vmem S1x1x5120 .f32) (harg9 : arg9.IsWhole) (arg10 : Memref sig .tc .vmem S1x128x5120 .bf16) (harg10 : arg10.IsWhole) (arg11 : Memref sig .tc .vmem S1x3x5120 .f32) (harg11 : arg11.IsWhole) (arg12 : Memref sig .tc .vmem S1x1x3x5120 .f32) (harg12 : arg12.IsWhole) (arg13 : Memref sig .tc .vmem S32x5120 .f32) (harg13 : arg13.IsWhole) (arg14 : Memref sig .tc .vmem S32x5120 .f32) (harg14 : arg14.IsWhole) (hc0 : cond0_0 i)
    (x0 : Vec F S1x128x5120 .fp8e4m3) (x1 : Vec F S1x128x40 .f32) (x2 : Vec F S1x128x5120 .bf16) (x3 : Vec F S1x128x5120 .fp8e5m2) (x4 : Vec F S1x128x40 .f32) (x5 : Vec F S1x128x5120 .fp8e5m2) (x6 : Vec F S1x128x40 .f32) (x7 : Vec F S1x1x5120 .f32) (y : S1x1x3x5120.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.1 ![1, 1, 1, 128] (by sl_kernel_rfl) y

/-- What case A leaves in output 10's staging buffer: its pieces read back over junk. -/
def out0_A_10 (c : Dev nD) (i : grid0.Coords) (arg2 : Memref sig .tc .vmem S1x128x5120 .fp8e4m3) (harg2 : arg2.IsWhole) (arg3 : Memref sig .tc .vmem S1x128x40 .f32) (harg3 : arg3.IsWhole) (arg4 : Memref sig .tc .vmem S1x128x5120 .bf16) (harg4 : arg4.IsWhole) (arg5 : Memref sig .tc .vmem S1x128x5120 .fp8e5m2) (harg5 : arg5.IsWhole) (arg6 : Memref sig .tc .vmem S1x128x40 .f32) (harg6 : arg6.IsWhole) (arg7 : Memref sig .tc .vmem S1x128x5120 .fp8e5m2) (harg7 : arg7.IsWhole) (arg8 : Memref sig .tc .vmem S1x128x40 .f32) (harg8 : arg8.IsWhole) (arg9 : Memref sig .tc .vmem S1x1x5120 .f32) (harg9 : arg9.IsWhole) (arg10 : Memref sig .tc .vmem S1x128x5120 .bf16) (harg10 : arg10.IsWhole) (arg11 : Memref sig .tc .vmem S1x3x5120 .f32) (harg11 : arg11.IsWhole) (arg12 : Memref sig .tc .vmem S1x1x3x5120 .f32) (harg12 : arg12.IsWhole) (arg13 : Memref sig .tc .vmem S32x5120 .f32) (harg13 : arg13.IsWhole) (arg14 : Memref sig .tc .vmem S32x5120 .f32) (harg14 : arg14.IsWhole) (hc0 : cond0_0 i)
    (x0 : Vec F S1x128x5120 .fp8e4m3) (x1 : Vec F S1x128x40 .f32) (x2 : Vec F S1x128x5120 .bf16) (x3 : Vec F S1x128x5120 .fp8e5m2) (x4 : Vec F S1x128x40 .f32) (x5 : Vec F S1x128x5120 .fp8e5m2) (x6 : Vec F S1x128x40 .f32) (x7 : Vec F S1x1x5120 .f32) : Vec F S1x1x3x5120 .f32 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.1)

/-- Case B's pieces for output 8 tile its block (160 stores of `S1x32x128`, checked by the kernel's evaluation: Lib/Ring.lean `Piece.tiledL`, linear in the pieces, through a loop's `@[irreducible]` trip theorem too), so they cover it. -/
theorem cover0_B_8 (c : Dev nD) (i : grid0.Coords) (arg2 : Memref sig .tc .vmem S1x128x5120 .fp8e4m3) (harg2 : arg2.IsWhole) (arg3 : Memref sig .tc .vmem S1x128x40 .f32) (harg3 : arg3.IsWhole) (arg4 : Memref sig .tc .vmem S1x128x5120 .bf16) (harg4 : arg4.IsWhole) (arg5 : Memref sig .tc .vmem S1x128x5120 .fp8e5m2) (harg5 : arg5.IsWhole) (arg6 : Memref sig .tc .vmem S1x128x40 .f32) (harg6 : arg6.IsWhole) (arg7 : Memref sig .tc .vmem S1x128x5120 .fp8e5m2) (harg7 : arg7.IsWhole) (arg8 : Memref sig .tc .vmem S1x128x40 .f32) (harg8 : arg8.IsWhole) (arg9 : Memref sig .tc .vmem S1x1x5120 .f32) (harg9 : arg9.IsWhole) (arg10 : Memref sig .tc .vmem S1x128x5120 .bf16) (harg10 : arg10.IsWhole) (arg11 : Memref sig .tc .vmem S1x3x5120 .f32) (harg11 : arg11.IsWhole) (arg12 : Memref sig .tc .vmem S1x1x3x5120 .f32) (harg12 : arg12.IsWhole) (arg13 : Memref sig .tc .vmem S32x5120 .f32) (harg13 : arg13.IsWhole) (arg14 : Memref sig .tc .vmem S32x5120 .f32) (harg14 : arg14.IsWhole) (hc0 : ¬cond0_0 i)
    (x0 : Vec F S1x128x5120 .fp8e4m3) (x1 : Vec F S1x128x40 .f32) (x2 : Vec F S1x128x5120 .bf16) (x3 : Vec F S1x128x5120 .fp8e5m2) (x4 : Vec F S1x128x40 .f32) (x5 : Vec F S1x128x5120 .fp8e5m2) (x6 : Vec F S1x128x40 .f32) (x7 : Vec F S1x1x5120 .f32) (xo9 : Vec F S1x3x5120 .f32) (y : S1x128x5120.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9).1 S1x32x128.size (by sl_kernel_rfl) y

/-- What case B leaves in output 8's staging buffer: its pieces read back over junk. -/
def out0_B_8 (c : Dev nD) (i : grid0.Coords) (arg2 : Memref sig .tc .vmem S1x128x5120 .fp8e4m3) (harg2 : arg2.IsWhole) (arg3 : Memref sig .tc .vmem S1x128x40 .f32) (harg3 : arg3.IsWhole) (arg4 : Memref sig .tc .vmem S1x128x5120 .bf16) (harg4 : arg4.IsWhole) (arg5 : Memref sig .tc .vmem S1x128x5120 .fp8e5m2) (harg5 : arg5.IsWhole) (arg6 : Memref sig .tc .vmem S1x128x40 .f32) (harg6 : arg6.IsWhole) (arg7 : Memref sig .tc .vmem S1x128x5120 .fp8e5m2) (harg7 : arg7.IsWhole) (arg8 : Memref sig .tc .vmem S1x128x40 .f32) (harg8 : arg8.IsWhole) (arg9 : Memref sig .tc .vmem S1x1x5120 .f32) (harg9 : arg9.IsWhole) (arg10 : Memref sig .tc .vmem S1x128x5120 .bf16) (harg10 : arg10.IsWhole) (arg11 : Memref sig .tc .vmem S1x3x5120 .f32) (harg11 : arg11.IsWhole) (arg12 : Memref sig .tc .vmem S1x1x3x5120 .f32) (harg12 : arg12.IsWhole) (arg13 : Memref sig .tc .vmem S32x5120 .f32) (harg13 : arg13.IsWhole) (arg14 : Memref sig .tc .vmem S32x5120 .f32) (harg14 : arg14.IsWhole) (hc0 : ¬cond0_0 i)
    (x0 : Vec F S1x128x5120 .fp8e4m3) (x1 : Vec F S1x128x40 .f32) (x2 : Vec F S1x128x5120 .bf16) (x3 : Vec F S1x128x5120 .fp8e5m2) (x4 : Vec F S1x128x40 .f32) (x5 : Vec F S1x128x5120 .fp8e5m2) (x6 : Vec F S1x128x40 .f32) (x7 : Vec F S1x1x5120 .f32) (xo9 : Vec F S1x3x5120 .f32) : Vec F S1x128x5120 .bf16 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9).1)

/-- Case B's pieces for output 9 tile its block (1 store of `S1x3x5120`, checked by the kernel's evaluation: Lib/Ring.lean `Piece.tiledL`, linear in the pieces, through a loop's `@[irreducible]` trip theorem too), so they cover it. -/
theorem cover0_B_9 (c : Dev nD) (i : grid0.Coords) (arg2 : Memref sig .tc .vmem S1x128x5120 .fp8e4m3) (harg2 : arg2.IsWhole) (arg3 : Memref sig .tc .vmem S1x128x40 .f32) (harg3 : arg3.IsWhole) (arg4 : Memref sig .tc .vmem S1x128x5120 .bf16) (harg4 : arg4.IsWhole) (arg5 : Memref sig .tc .vmem S1x128x5120 .fp8e5m2) (harg5 : arg5.IsWhole) (arg6 : Memref sig .tc .vmem S1x128x40 .f32) (harg6 : arg6.IsWhole) (arg7 : Memref sig .tc .vmem S1x128x5120 .fp8e5m2) (harg7 : arg7.IsWhole) (arg8 : Memref sig .tc .vmem S1x128x40 .f32) (harg8 : arg8.IsWhole) (arg9 : Memref sig .tc .vmem S1x1x5120 .f32) (harg9 : arg9.IsWhole) (arg10 : Memref sig .tc .vmem S1x128x5120 .bf16) (harg10 : arg10.IsWhole) (arg11 : Memref sig .tc .vmem S1x3x5120 .f32) (harg11 : arg11.IsWhole) (arg12 : Memref sig .tc .vmem S1x1x3x5120 .f32) (harg12 : arg12.IsWhole) (arg13 : Memref sig .tc .vmem S32x5120 .f32) (harg13 : arg13.IsWhole) (arg14 : Memref sig .tc .vmem S32x5120 .f32) (harg14 : arg14.IsWhole) (hc0 : ¬cond0_0 i)
    (x0 : Vec F S1x128x5120 .fp8e4m3) (x1 : Vec F S1x128x40 .f32) (x2 : Vec F S1x128x5120 .bf16) (x3 : Vec F S1x128x5120 .fp8e5m2) (x4 : Vec F S1x128x40 .f32) (x5 : Vec F S1x128x5120 .fp8e5m2) (x6 : Vec F S1x128x40 .f32) (x7 : Vec F S1x1x5120 .f32) (xo9 : Vec F S1x3x5120 .f32) (y : S1x3x5120.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9).2.1 S1x3x5120.size (by sl_kernel_rfl) y

/-- What case B leaves in output 9's staging buffer: its pieces read back over junk. -/
def out0_B_9 (c : Dev nD) (i : grid0.Coords) (arg2 : Memref sig .tc .vmem S1x128x5120 .fp8e4m3) (harg2 : arg2.IsWhole) (arg3 : Memref sig .tc .vmem S1x128x40 .f32) (harg3 : arg3.IsWhole) (arg4 : Memref sig .tc .vmem S1x128x5120 .bf16) (harg4 : arg4.IsWhole) (arg5 : Memref sig .tc .vmem S1x128x5120 .fp8e5m2) (harg5 : arg5.IsWhole) (arg6 : Memref sig .tc .vmem S1x128x40 .f32) (harg6 : arg6.IsWhole) (arg7 : Memref sig .tc .vmem S1x128x5120 .fp8e5m2) (harg7 : arg7.IsWhole) (arg8 : Memref sig .tc .vmem S1x128x40 .f32) (harg8 : arg8.IsWhole) (arg9 : Memref sig .tc .vmem S1x1x5120 .f32) (harg9 : arg9.IsWhole) (arg10 : Memref sig .tc .vmem S1x128x5120 .bf16) (harg10 : arg10.IsWhole) (arg11 : Memref sig .tc .vmem S1x3x5120 .f32) (harg11 : arg11.IsWhole) (arg12 : Memref sig .tc .vmem S1x1x3x5120 .f32) (harg12 : arg12.IsWhole) (arg13 : Memref sig .tc .vmem S32x5120 .f32) (harg13 : arg13.IsWhole) (arg14 : Memref sig .tc .vmem S32x5120 .f32) (harg14 : arg14.IsWhole) (hc0 : ¬cond0_0 i)
    (x0 : Vec F S1x128x5120 .fp8e4m3) (x1 : Vec F S1x128x40 .f32) (x2 : Vec F S1x128x5120 .bf16) (x3 : Vec F S1x128x5120 .fp8e5m2) (x4 : Vec F S1x128x40 .f32) (x5 : Vec F S1x128x5120 .fp8e5m2) (x6 : Vec F S1x128x40 .f32) (x7 : Vec F S1x1x5120 .f32) (xo9 : Vec F S1x3x5120 .f32) : Vec F S1x3x5120 .f32 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9).2.1)

/-- Case B's pieces for output 10 are of SEVERAL sizes (481 stores of `S1x1x1x128`, `S1x1x3x5120`): cut into blocks of `![1, 1, 1, 128]` they tile its block (checked by the kernel's evaluation: Lib/Ring.lean `Piece.tiledBy`), so they cover it. -/
theorem cover0_B_10 (c : Dev nD) (i : grid0.Coords) (arg2 : Memref sig .tc .vmem S1x128x5120 .fp8e4m3) (harg2 : arg2.IsWhole) (arg3 : Memref sig .tc .vmem S1x128x40 .f32) (harg3 : arg3.IsWhole) (arg4 : Memref sig .tc .vmem S1x128x5120 .bf16) (harg4 : arg4.IsWhole) (arg5 : Memref sig .tc .vmem S1x128x5120 .fp8e5m2) (harg5 : arg5.IsWhole) (arg6 : Memref sig .tc .vmem S1x128x40 .f32) (harg6 : arg6.IsWhole) (arg7 : Memref sig .tc .vmem S1x128x5120 .fp8e5m2) (harg7 : arg7.IsWhole) (arg8 : Memref sig .tc .vmem S1x128x40 .f32) (harg8 : arg8.IsWhole) (arg9 : Memref sig .tc .vmem S1x1x5120 .f32) (harg9 : arg9.IsWhole) (arg10 : Memref sig .tc .vmem S1x128x5120 .bf16) (harg10 : arg10.IsWhole) (arg11 : Memref sig .tc .vmem S1x3x5120 .f32) (harg11 : arg11.IsWhole) (arg12 : Memref sig .tc .vmem S1x1x3x5120 .f32) (harg12 : arg12.IsWhole) (arg13 : Memref sig .tc .vmem S32x5120 .f32) (harg13 : arg13.IsWhole) (arg14 : Memref sig .tc .vmem S32x5120 .f32) (harg14 : arg14.IsWhole) (hc0 : ¬cond0_0 i)
    (x0 : Vec F S1x128x5120 .fp8e4m3) (x1 : Vec F S1x128x40 .f32) (x2 : Vec F S1x128x5120 .bf16) (x3 : Vec F S1x128x5120 .fp8e5m2) (x4 : Vec F S1x128x40 .f32) (x5 : Vec F S1x128x5120 .fp8e5m2) (x6 : Vec F S1x128x40 .f32) (x7 : Vec F S1x1x5120 .f32) (xo9 : Vec F S1x3x5120 .f32) (y : S1x1x3x5120.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9).2.2.1, y ∈ pc.1.set :=
  View.cover_of_tiledBy (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9).2.2.1 ![1, 1, 1, 128] (by sl_kernel_rfl) y

/-- What case B leaves in output 10's staging buffer: its pieces read back over junk. -/
def out0_B_10 (c : Dev nD) (i : grid0.Coords) (arg2 : Memref sig .tc .vmem S1x128x5120 .fp8e4m3) (harg2 : arg2.IsWhole) (arg3 : Memref sig .tc .vmem S1x128x40 .f32) (harg3 : arg3.IsWhole) (arg4 : Memref sig .tc .vmem S1x128x5120 .bf16) (harg4 : arg4.IsWhole) (arg5 : Memref sig .tc .vmem S1x128x5120 .fp8e5m2) (harg5 : arg5.IsWhole) (arg6 : Memref sig .tc .vmem S1x128x40 .f32) (harg6 : arg6.IsWhole) (arg7 : Memref sig .tc .vmem S1x128x5120 .fp8e5m2) (harg7 : arg7.IsWhole) (arg8 : Memref sig .tc .vmem S1x128x40 .f32) (harg8 : arg8.IsWhole) (arg9 : Memref sig .tc .vmem S1x1x5120 .f32) (harg9 : arg9.IsWhole) (arg10 : Memref sig .tc .vmem S1x128x5120 .bf16) (harg10 : arg10.IsWhole) (arg11 : Memref sig .tc .vmem S1x3x5120 .f32) (harg11 : arg11.IsWhole) (arg12 : Memref sig .tc .vmem S1x1x3x5120 .f32) (harg12 : arg12.IsWhole) (arg13 : Memref sig .tc .vmem S32x5120 .f32) (harg13 : arg13.IsWhole) (arg14 : Memref sig .tc .vmem S32x5120 .f32) (harg14 : arg14.IsWhole) (hc0 : ¬cond0_0 i)
    (x0 : Vec F S1x128x5120 .fp8e4m3) (x1 : Vec F S1x128x40 .f32) (x2 : Vec F S1x128x5120 .bf16) (x3 : Vec F S1x128x5120 .fp8e5m2) (x4 : Vec F S1x128x40 .f32) (x5 : Vec F S1x128x5120 .fp8e5m2) (x6 : Vec F S1x128x40 .f32) (x7 : Vec F S1x1x5120 .f32) (xo9 : Vec F S1x3x5120 .f32) : Vec F S1x1x3x5120 .f32 :=
  VO0_10.read (Elt F) (VO0_10.writes (Elt F) VO0_10.junk (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9).2.2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x128x5120 .bf16 × Vec F S1x3x5120 .f32 × Vec F S1x1x3x5120 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 48 = 0 then
      (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1, out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1)

/-- `outsAt0` at a point of case A: that case's contents. -/
theorem outsAt0_A (c : Dev nD) (t : Fin cfg0.N) (h0 : t.val % 48 = 0) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 48 = 0) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
    | ⟨10, _⟩ => (outsAt0 m c t.val t.isLt).2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]
theorem after0_10 (c : Dev nD) (t : Fin cfg0.N) : (dats m 0 c).after 10 t = (outsAt0 m c t.val t.isLt).2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
/-- At a point of case B output 9's current staging buffer holds what the body left at the point before: the point is
    not the first, the buffer was not written back between (`flush0_9`), the window is live and uncut (Lib/Pipeline/Frame.lean
    `Dat.before_out_kept`). -/
theorem before0_9_B (c : Dev nD) (t : Fin cfg0.N) (h0 : ¬t.val % 48 = 0) (d) :
    (dats m 0 c).before 9 t d = (outsAt0 m c (t.val - 1) (Nat.lt_of_le_of_lt (Nat.sub_le _ _) t.isLt)).2.1 := by
  have hN : t.val < 288 := lt_of_lt_of_eq t.isLt (show cfg0.N = 288 from N_0)
  rw [Dat.before_out_kept _ 9 rfl t (by omega) (Bool.eq_false_iff.mpr fun h => by have := (flush0_9 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 2400000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  rw [show (dats m 0 c).Φ t.castSucc = Pipeline.ΦA spec0 c from rfl, PhiA0_eq]
  have hN : t.val < 288 := lt_of_lt_of_eq t.isLt (show cfg0.N = 288 from N_0)
  by_cases h0 : t.val % 48 = 0
  · rw [outsAt0_A m c t h0]
    unfold out0_A_8 out0_A_9 out0_A_10; (try dsimp only)
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_A c (grid0.coords t) _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HS0]; · iexact HS0
    isplitl [HS1]; · iexact HS1
    iintro ⟨H0, H1, H2, H3, H4, H5, H6, H7, ⟨%e8, H8⟩, ⟨%e9, H9⟩, ⟨%e10, H10⟩, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _ _ _ _ _ _ _)
    isplitl [H9]
    · unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _ _ _ _ _ _ _)
    unfold owns; iexists _; isplitr
    swap; · iexact H10
    ipureintro; exact View.read_writes_of_cover _ _ _ _ _ (cover0_A_10 c _ _ _ _ _ _ _ _ _ _ _ _ _ _ _ _ _ _ _ _ _ _ _ _ _ _ _ _ _ _ _ _ _ _ _ _)
  · rw [outsAt0_B m c t h0]
    simp only [before0_9_B m c t h0]
    unfold out0_B_8 out0_B_9 out0_B_10; (try dsimp only)
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_B c (grid0.coords t) _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexists _; iexact H10
    isplitl [HS0]; · iexact HS0
    isplitl [HS1]; · iexact HS1
    iintro ⟨H0, H1, H2, H3, H4, H5, H6, H7, ⟨%e8, H8⟩, ⟨%e9, H9⟩, ⟨%e10, H10⟩, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _ _ _ _ _ _ _ _)
    isplitl [H9]
    · unfold owns; iexists _; isplitr
      swap; · iexact H9
      ipureintro; exact View.read_writes_of_cover _ _ _ _ _ (cover0_B_9 c _ _ _ _ _ _ _ _ _ _ _ _ _ _ _ _ _ _ _ _ _ _ _ _ _ _ _ _ _ _ _ _ _ _ _ _ _)
    unfold owns; iexists _; isplitr
    swap; · iexact H10
    ipureintro; exact View.read_writes_of_cover _ _ _ _ _ (cover0_B_10 c _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Gen

end
-- ==== Proof.KernelFrame.lean ====
/- The frame of the kernel over floats, from the frame of the kernel with its constant named: read with the constant's name
   standing for the printed bits, the second program is the first. -/
module

public import proofs.«01_k».proof.Defs
public import proofs.«01_k».proof.Proof.PointFrame
public import proofs.«01_k».proof.Proof.Gen.Kernel

@[expose] public section

noncomputable section

namespace Cert.KernelFrame

open Idealize.ShloMosaic Idealize.SL.Sem

/-- A named constant read as the printed bits. -/
local instance literal : Named Bits where
  named _ _ {φ} bits := Scalar.ofBits φ bits

/-- The side conditions hold of the kernel. -/
local instance : Cert.Kernel.Facts := Cert.Kernel.Gen.facts
/-- The side conditions hold of the kernel with its constant named. -/
local instance : Cert.KernelIdeal.Facts := Cert.KernelIdeal.Gen.facts

/-- The body tables agree: the same kernel, with its constant's bits printed or named. -/
theorem bodies_eq : Cert.Kernel.defs₀ (F := Bits) = Cert.KernelIdeal.defs₀ (F := Bits) := by
  refine congrArg (Defs.onTc (nD := Cert.Kernel.nD) (τ := Cert.Kernel.τ) (sig := Cert.Kernel.sig) (Val := Elt Bits)
    (Λ := Cert.Kernel.Λ₀)) (funext fun l => ?_)
  match l with
  | 0 =>
    funext x
    obtain ⟨t, s⟩ := x
    rfl

/-- The tables with each launch's pipeline agree. -/
theorem defs_eq : Cert.Kernel.defs (F := Bits) = Cert.KernelIdeal.defs (F := Bits) :=
  congrArg (Pipeline.defs (Cert.Kernel.pcfgs (F := Bits))) bodies_eq

/-- The two programs have the same @main. -/
theorem main_eq : Cert.Kernel.main (F := Bits) = Cert.KernelIdeal.main (F := Bits) := rfl

/-- The kernel over floats runs, keeps its arguments and ends with every semaphore at zero. -/
theorem frame : Cert.quiescent_Kernel := by
  intro m g _
  rw [defs_eq, main_eq]
  exact Cert.KernelIdeal.Gen.frame (F := Bits) m g

end Cert.KernelFrame

end
-- ==== Proof.Consts.lean ====
/- The float constants of the programs, as the extended reals their patterns denote at `Ideal`. One module unfolds
   `Ideal.ofBits`; the others read the constants here. -/
module

public import Idealize.ShloMosaic.PureOps.Ideal

@[expose] public section

noncomputable section

namespace Cert.Consts

open Idealize.ShloMosaic

/-- The factor `1 / 5120` of every mean over the channels. -/
def invD : EReal := ((1 / 5120 : ℝ) : EReal)

/-- The small number added to the variance, as its f32 pattern denotes it. -/
def eps : EReal := Ideal.ofBits .f32 0x358637BD#32

/-- `5120.0`, the reference's divisor, denotes the real `5120`. -/
theorem ofBits_5120 : Ideal.ofBits .f32 0x45A00000#32 = ((5120 : ℝ) : EReal) := by
  simp [Ideal.ofBits, Ideal.ieee, -EReal.coe_mul]; norm_num

/-- `1.0` denotes `1`. -/
theorem ofBits_one : Ideal.ofBits .f32 0x3F800000#32 = 1 := by
  simp [Ideal.ofBits, Ideal.ieee, -EReal.coe_mul]; norm_num

/-- `eps` is a positive real number. -/
theorem eps_pos : 0 < eps := by
  unfold eps
  simp [Ideal.ofBits, Ideal.ieee, -EReal.coe_mul]

/-- Dividing by `5120.0` is multiplying by `1 / 5120`. -/
theorem div_5120 (x : EReal) : Ideal.div x (Ideal.ofBits .f32 0x45A00000#32) = x * invD := by
  rw [ofBits_5120, Ideal.div_coe (by norm_num : (5120 : ℝ) ≠ 0)]; rfl

end Cert.Consts

end
-- ==== Proof.Spec.lean ====
/- The mathematics of one token: layer norm's statistics and the gradient through them, over the extended reals, on
   functions of the 5120 channels; and the one rewriting the two programs need, the reciprocal deviation taken out of
   a sum. -/
module

public import proofs.«01_k».proof.Proof.Consts

@[expose] public section

noncomputable section

namespace Cert.Spec

open Idealize.ShloMosaic Cert.Consts

/-- The mean of `v` over the channels. -/
def mean (v : Fin 5120 → EReal) : EReal := (∑ d, v d) * invD

/-- `x` less its mean. -/
def cen (x : Fin 5120 → EReal) (d : Fin 5120) : EReal := x d - mean x

/-- One over the standard deviation of `x`. -/
def rstd (x : Fin 5120 → EReal) : EReal := Ideal.rsqrt (mean (fun d => cen x d * cen x d) + eps)

/-- `x` normalised. -/
def xhat (x : Fin 5120 → EReal) (d : Fin 5120) : EReal := cen x d * rstd x

/-- The gradient that reaches the normalised activation: `h` scaled by one plus the modulation. -/
def gain (h sc : Fin 5120 → EReal) (d : Fin 5120) : EReal := h d * (1 + sc d)

/-- The gradient of the block's input: the residual's `y`, and `h` pulled back through the modulation and the norm. -/
def dx (x h y sc : Fin 5120 → EReal) (d : Fin 5120) : EReal :=
  y d + rstd x * (gain h sc d - mean (gain h sc) - xhat x d * mean (fun e => gain h sc e * xhat x e))

/-- A square is not negative. -/
theorem mul_self_nonneg (a : EReal) : 0 ≤ a * a := by
  induction a with
  | bot => simp
  | top => simp
  | coe r => rw [← EReal.coe_mul]; exact EReal.coe_nonneg.2 (_root_.mul_self_nonneg r)

/-- A sum of squares over 5120 is not negative. -/
theorem var_nonneg (x : Fin 5120 → EReal) : 0 ≤ mean (fun d => cen x d * cen x d) := by
  refine mul_nonneg (Finset.sum_nonneg fun d _ => mul_self_nonneg _) ?_
  exact EReal.coe_nonneg.2 (by norm_num)

/-- The reciprocal square root of a positive number is not negative and not `⊤`. -/
theorem rsqrt_of_pos (a : EReal) (ha : 0 < a) : 0 ≤ Ideal.rsqrt a ∧ Ideal.rsqrt a ≠ ⊤ := by
  induction a with
  | bot => simp at ha
  | top => simp
  | coe r =>
    have hr : 0 < r := EReal.coe_pos.1 ha
    rw [Ideal.rsqrt_coe, if_neg (not_lt.2 hr.le), if_neg hr.ne']
    exact ⟨EReal.coe_nonneg.2 (inv_nonneg.2 (Real.sqrt_nonneg r)), EReal.coe_ne_top _⟩

/-- The reciprocal deviation is a real number that is not negative. -/
theorem rstd_nonneg_ne_top (x : Fin 5120 → EReal) : 0 ≤ rstd x ∧ rstd x ≠ ⊤ :=
  rsqrt_of_pos _ (lt_of_lt_of_le eps_pos (le_add_of_nonneg_left (var_nonneg x)))

/-- Multiplying by a real number that is not negative distributes over a sum of extended reals. -/
theorem sum_mul_of_nonneg {ι : Type*} (s : Finset ι) (a : ι → EReal) (r : EReal) (h0 : 0 ≤ r) (ht : r ≠ ⊤) :
    (∑ i ∈ s, a i) * r = ∑ i ∈ s, a i * r := by
  classical
  induction s using Finset.induction_on with
  | empty => simp
  | insert i s hi ih =>
    rw [Finset.sum_insert hi, Finset.sum_insert hi, EReal.right_distrib_of_nonneg_of_ne_top h0 ht, ih]

/-- The mean of the gradient against the normalised activation is the mean against the centred one, times the
    reciprocal deviation. -/
theorem mean_gain_xhat (x g : Fin 5120 → EReal) :
    mean (fun e => g e * xhat x e) = mean (fun e => cen x e * g e) * rstd x := by
  have h := rstd_nonneg_ne_top x
  show (∑ e, g e * (cen x e * rstd x)) * invD = (∑ e, cen x e * g e) * invD * rstd x
  rw [mul_right_comm (∑ e, cen x e * g e), sum_mul_of_nonneg _ _ _ h.1 h.2]
  refine congrArg (· * invD) (Finset.sum_congr rfl fun e _ => ?_)
  rw [← mul_assoc, mul_comm (g e)]

end Cert.Spec

end
-- ==== Proof.TripIdeal.lean ====
/- A trip's values over the extended reals: where each block of what it loads is a block of a row's vector over the 5120
   channels, what it computes is the row's mean, deviation, normalised activation and gradient (Proof/Spec.lean). -/
module

public import proofs.«01_k».proof.Proof.TripValue
public import proofs.«01_k».proof.Proof.Spec
public import Idealize.ShloMosaic.Lib.Pointwise

@[expose] public section

noncomputable section

namespace Cert.Trip

open Cert.KernelIdeal Cert.KernelIdeal.Gen Idealize.ShloMosaic Idealize.ShloMosaic.TcCoe
open Idealize.ShloMosaic.Pointwise Cert.Spec Cert.Consts

/-- Channel `l` of block `n`. -/
def chan (n : Nat) (h : n < 40) (l : Fin 128) : Fin 5120 := ⟨128 * n + l.val, by omega⟩

/-- The blocks `v` are the rows `x`: row `i`'s channel `l` of block `n`. -/
def Rows (v : (n : Nat) → n < 40 → FVec Ideal S32x128 .f32) (x : Fin 32 → Fin 5120 → EReal) : Prop :=
  ∀ (n : Nat) (h : n < 40) (i : Fin 32) (l : Fin 128), v n h (ix2 i l) = x i (chan n h l)

/-- The blocks summed lane by lane. -/
theorem acc_apply (v : (n : Nat) → n < 40 → FVec Ideal S32x128 .f32) (n : Nat) (h : n ≤ 40) (i : Fin 32) (l : Fin 128) :
    acc v n h (ix2 i l) = ∑ j : Fin n, v j.val (lt_of_lt_of_le j.isLt h) (ix2 i l) := by
  induction n with
  | zero =>
    rw [acc]
    pointwise []
    simp
  | succ n ih =>
    rw [acc, Fin.sum_univ_castSucc]
    pointwise []
    rw [ih]
    rfl

/-- A sum over the lanes of a sum over the blocks is the sum over the channels. -/
theorem sum_chan (f : Fin 5120 → EReal) :
    (∑ l : Fin 128, ∑ j : Fin 40, f (chan j.val j.isLt l)) = ∑ d, f d := by
  rw [Finset.sum_comm, ← Finset.sum_product']
  refine Fintype.sum_equiv (finProdFinEquiv (m := 40) (n := 128)) _ _ fun p => ?_
  congr 1
  apply Fin.ext
  show 128 * p.1.val + p.2.val = p.2.val + 128 * p.1.val
  omega

/-- The mean of the lane sums is the row's mean. -/
theorem rowMean_acc (v : (n : Nat) → n < 40 → FVec Ideal S32x128 .f32) (x : Fin 32 → Fin 5120 → EReal) (hv : Rows v x) (i : Fin 32) :
    rowMean (acc v 40 le_rfl) (ix2 i 0) = mean (x i) := by
  pointwise [rowMean]
  simp only [acc_apply, hv _ _ i]
  rw [sum_chan (x i), mean]
  exact congrArg ((∑ d, x i d) * ·) (IdealRules.named_const.ideal_named_scalar _ _ _ _ rfl)

variable (xq : (n : Nat) → n < 40 → Vec Ideal S1x32x128 .fp8e4m3) (xs : Vec Ideal S1x32x40 .f32)
  (hq : (n : Nat) → n < 40 → Vec Ideal S1x32x128 .fp8e5m2) (hs : Vec Ideal S1x32x40 .f32)
  (sc : (n : Nat) → n < 40 → Vec Ideal S1x1x128 .f32)
  (xr hr : (n : Nat) → n < 40 → Vec Ideal S32x128 .f32)
  (yq : (n : Nat) → n < 40 → Vec Ideal S1x32x128 .fp8e5m2) (ys : Vec Ideal S1x32x40 .f32)
  (x h y : Fin 32 → Fin 5120 → EReal) (s : Fin 5120 → EReal)

/-- One plus the modulation, block by block. -/
theorem gainBlk_apply (hsc : ∀ n h l, sc n h (ix3 0 0 l) = s (chan n h l)) : Rows (gainBlk sc) (fun _ d => 1 + s d) := by
  intro n hn i l
  pointwise [gainBlk]
  rw [hsc]

section
variable (hx : Rows (deq4 xq xs) x) (hh : Rows (deq5 hq hs) h) (hxr : Rows xr x) (hhr : Rows hr h)
  (hsc : ∀ n h l, sc n h (ix3 0 0 l) = s (chan n h l))

include hx in
theorem mu_apply (i : Fin 32) : mu xq xs (ix2 i 0) = mean (x i) := rowMean_acc _ x hx i

include hh hsc in
theorem gm_apply (i : Fin 32) : gm hq hs sc (ix2 i 0) = mean (gain (h i) s) :=
  rowMean_acc _ (fun i => gain (h i) s) (fun n hn i l => by
    pointwise []
    rw [hh, gainBlk_apply sc s hsc]
    rfl) i

include hx hxr in
theorem cenBlk_apply : Rows (cenBlk xq xs xr) (fun i => cen (x i)) := by
  intro n hn i l
  pointwise [cenBlk]
  rw [hxr n hn i l, mu_apply xq xs x hx i]
  rfl

include hhr hsc in
theorem gBlk_apply : Rows (gBlk sc hr) (fun i => gain (h i) s) := by
  intro n hn i l
  pointwise [gBlk]
  rw [hhr n hn i l, gainBlk_apply sc s hsc n hn i l]
  rfl

include hx hxr in
theorem rsd_apply (i : Fin 32) : rsd xq xs xr (ix2 i 0) = rstd (x i) := by
  pointwise [rsd]
  rw [rowMean_acc _ (fun i d => cen (x i) d * cen (x i) d) (fun n hn i l => by
    pointwise []
    rw [cenBlk_apply xq xs xr x hx hxr n hn i l])]
  rfl

include hx hxr hhr hsc in
theorem gx_apply (i : Fin 32) : gx xq xs sc xr hr (ix2 i 0) = mean (fun d => gain (h i) s d * xhat (x i) d) := by
  pointwise [gx]
  rw [rowMean_acc _ (fun i d => cen (x i) d * gain (h i) s d) (fun n hn i l => by
    pointwise []
    rw [cenBlk_apply xq xs xr x hx hxr n hn i l, gBlk_apply sc hr h s hhr hsc n hn i l]), rsd_apply xq xs xr x hx hxr,
    mean_gain_xhat]

include hx hxr in
/-- The normalised activation, block by block. -/
theorem hatBlk_apply : Rows (hatBlk xq xs xr) (fun i => xhat (x i)) := by
  intro n hn i l
  pointwise [hatBlk]
  rw [cenBlk_apply xq xs xr x hx hxr n hn i l, rsd_apply xq xs xr x hx hxr]
  rfl

include hx hh hxr hhr hsc in
/-- The rows' input gradient, block by block. -/
theorem dxBlk_apply (hy : Rows (deq5 yq ys) y) (n : Nat) (hn : n < 40) (i : Fin 32) (l : Fin 128) :
    dxBlk xq xs hq hs sc xr hr yq ys n hn (ix3 0 i l) = dx (x i) (h i) (y i) s (chan n hn l) := by
  pointwise [dxBlk]
  rw [hy n hn i l, rsd_apply xq xs xr x hx hxr, gBlk_apply sc hr h s hhr hsc n hn i l, gm_apply hq hs sc h s hh hsc,
    hatBlk_apply xq xs xr x hx hxr n hn i l, gx_apply xq xs sc xr hr x h s hx hxr hhr hsc]
  rfl

end

/-- The rows summed onto what the block sums held. -/
theorem sumOnto_apply (p : Vec Ideal S1x1x1x128 .f32) (v : FVec Ideal S32x128 .f32) (l : Fin 128) :
    sumOnto p v (ix4 0 0 0 l) = p (ix4 0 0 0 l) + ∑ i : Fin 32, v (ix2 i l) := by
  pointwise [sumOnto]

end Cert.Trip

end
-- ==== Proof.PointIdeal.lean ====
/- What the loop leaves at a grid point, over the extended reals: the input gradient of the point's 128 tokens, and the
   three block sums over them, in terms of the eight blocks the point reads. -/
module

public import proofs.«01_k».proof.Proof.TripLoop
public import proofs.«01_k».proof.Proof.TripIdeal
public import Idealize.ShloMosaic.Lib.Pipeline.ReadBack
public import Idealize.ShloMosaic.Lib.WholeRead
public import Idealize.ShloMosaic.Lib.Pipeline.ValueKit.Tiles

@[expose] public section

noncomputable section

namespace Cert.Trip

open Cert.KernelIdeal Cert.KernelIdeal.Gen Idealize.ShloMosaic Idealize.ShloMosaic.TcCoe
open Idealize.ShloMosaic.Pointwise Cert.Spec Cert.Consts

/-- The block a channel is in, and its lane there. -/
def blkOf (d : Fin 5120) : Nat := d.val / 128
/-- A channel lies in one of the 40 blocks. -/
theorem blkOf_lt (d : Fin 5120) : blkOf d < 40 := Nat.div_lt_of_lt_mul d.isLt
/-- A channel's place in its block. -/
def laneOf (d : Fin 5120) : Fin 128 := ⟨d.val % 128, Nat.mod_lt _ (by decide)⟩

/-- A channel is given by its block and its place in it. -/
theorem chan_blkOf (d : Fin 5120) : chan (blkOf d) (blkOf_lt d) (laneOf d) = d :=
  Fin.ext (Nat.div_add_mod d.val 128)

/-- The block of block `n`'s channel `l` is `n`. -/
theorem blkOf_chan (n : Nat) (h : n < 40) (l : Fin 128) : blkOf (chan n h l) = n := by
  show (128 * n + l.val) / 128 = n
  omega

/-- The place of block `n`'s channel `l` is `l`. -/
theorem laneOf_chan (n : Nat) (h : n < 40) (l : Fin 128) : laneOf (chan n h l) = l :=
  Fin.ext (by show (128 * n + l.val) % 128 = l.val; omega)

/-- The loop has four trips. -/
theorem trips_lt (k : Fin k0_t1_loop.trips) : k.val < 4 := Nat.lt_of_lt_of_le k.isLt (by decide)

/-- Row `i` of trip `k`. -/
def row (k : Fin k0_t1_loop.trips) (i : Fin 32) : Fin 128 := ⟨32 * k.val + i.val, by have := trips_lt k; omega⟩

/-- Where a trip's rows start, in a block of tokens. -/
theorem off1_row (k : Fin k0_t1_loop.trips) : k0_off1 k = ![0, 32 * k.val, 0] := by revert k; decide
/-- Where a trip's rows start, in a block of scales. -/
theorem off2_row (k : Fin k0_t1_loop.trips) : k0_off2 k 1 = 32 * k.val := by revert k; decide

section
variable {F : FTy → Type} [FloatOps F] [Named F]

/-- Where a load of block `n` of a scratch buffer reads. -/
theorem idx_keep {n : Nat} (hn : n < 40) (x : S32x128.Idx) :
    (Rect.unit (s := S32x5120) ![0, 128 * n] S32x128.size (off2_inb hn)).toLoadRect.idx x = ix2 (x 0) (chan n hn (x 1)) := by
  funext a
  match a with
  | 0 => exact Fin.ext (by rw [Rect.idx_unit_val]; show 0 + (x 0).val = (x 0).val; omega)
  | 1 => exact Fin.ext (by rw [Rect.idx_unit_val]; show 128 * n + (x 1).val = 128 * n + (x 1).val; omega)

/-- Where a store to block `n` of a scratch buffer writes. -/
theorem emb_keep {n : Nat} (hn : n < 40) (x : S32x128.Idx) :
    (Rect.unit (s := S32x5120) ![0, 128 * n] S32x128.size (off2_inb hn)).emb x = ix2 (x 0) (chan n hn (x 1)) := idx_keep hn x

/-- An index of block `n` is among those that block's store writes. -/
theorem mem_keep {n : Nat} (hn : n < 40) (y : S32x5120.Idx) (h : blkOf (y 1) = n) :
    y ∈ (Rect.unit (s := S32x5120) ![0, 128 * n] S32x128.size (off2_inb hn)).set := by
  refine Rect.mem_set_unit.mpr fun a => ?_
  have h' : (y 1).val / 128 = n := h
  match a with
  | 0 => exact ⟨Nat.zero_le _, (by show (y 0).val < 0 + 32; exact (Nat.zero_add 32).symm ▸ (y 0).isLt)⟩
  | 1 => exact ⟨(by show 128 * n ≤ (y 1).val; omega), (by show (y 1).val < 128 * n + 128; omega)⟩

/-- A family of blocks, as one array over all the channels. -/
def flat (v : (n : Nat) → n < 40 → FVec F S32x128 .f32) (i : Fin 32) (d : Fin 5120) : F .f32 :=
  v (blkOf d) (blkOf_lt d) (ix2 i (laneOf d))

/-- The flat array at block `n`'s channel `l` is the block's value there. -/
theorem flat_chan (v : (n : Nat) → n < 40 → FVec F S32x128 .f32) (n : Nat) (hn : n < 40) (i : Fin 32) (l : Fin 128) :
    flat v i (chan n hn l) = v n hn (ix2 i l) := by
  show v (blkOf (chan n hn l)) _ (ix2 i (laneOf (chan n hn l))) = _
  rw [laneOf_chan]
  simp only [blkOf_chan]

/-- The scratch stores of the first `m` blocks all store parts of the flat array. -/
theorem keepL_pieces (v : (n : Nat) → n < 40 → FVec F S32x128 .f32) (m : Nat) (hm : m ≤ 40) :
    View.PiecesOf (Val := Elt F) (fun y : S32x5120.Idx => flat v (y 0) (y 1)) (keepL v m hm) := by
  induction m with
  | zero => exact trivial
  | succ m ih =>
    refine ⟨fun x => ?_, ih _⟩
    show shapeCast S32x128 (v m hm) _ x = _
    rw [shapeCast_self, emb_keep hm x]
    exact (congrArg (v m hm) (eq_ix2 x)).trans (flat_chan v m hm _ _).symm

/-- The scratch stores of the first `m` blocks write every index of those blocks. -/
theorem keepL_cover (v : (n : Nat) → n < 40 → FVec F S32x128 .f32) (m : Nat) (hm : m ≤ 40) (y : S32x5120.Idx) (hy : blkOf (y 1) < m) :
    ∃ p ∈ keepL v m hm, y ∈ p.1.set := by
  induction m with
  | zero => exact absurd hy (Nat.not_lt_zero _)
  | succ m ih =>
    rcases Nat.lt_succ_iff_lt_or_eq.mp hy with h | h
    · obtain ⟨p, hp, hpy⟩ := ih (Nat.le_of_succ_le hm) h
      exact ⟨p, List.mem_cons_of_mem _ hp, hpy⟩
    · exact ⟨_, List.mem_cons_self, mem_keep hm y h⟩

/-- The scratch stores of all blocks leave the flat array. -/
theorem canon_keepL (v : (n : Nat) → n < 40 → FVec F S32x128 .f32) (y : S32x5120.Idx) :
    View.canon (keepL v 40 le_rfl) y = flat v (y 0) (y 1) :=
  View.canon_apply_of_pieces (fun y : S32x5120.Idx => flat v (y 0) (y 1)) (keepL v 40 le_rfl) (keepL_pieces v 40 le_rfl).mem y
    (keepL_cover v 40 le_rfl y (blkOf_lt _))

/-- A kept block reads back as it was stored. -/
theorem back_apply (a : Memref sig .tc .vmem S32x5120 .f32) (v : (n : Nat) → n < 40 → FVec F S32x128 .f32) (n : Nat) (h : n < 40)
    (i : Fin 32) (l : Fin 128) : back a v n h (ix2 i l) = v n h (ix2 i l) := by
  refine (congrFun (View.readCov_eq_canon' a.view (keepL v 40 le_rfl)
    (Rect.unit (s := S32x5120) ![0, 128 * n] S32x128.size (off2_inb h)).toLoadRect) (ix2 i l)).trans ?_
  refine (congrArg (View.canon (keepL v 40 le_rfl)) (idx_keep h (ix2 i l))).trans ?_
  exact (canon_keepL v _).trans (flat_chan v n h i l)

/-- Where trip `k`'s store to block `n` of the input gradient writes. -/
theorem idx_dx (k : Fin k0_t1_loop.trips) {n : Nat} (hn : n < 40) (x : S1x32x128.Idx) :
    (Rect.unit (s := S1x128x5120) (off3 k n) S1x32x128.size (off3_inb k hn)).toLoadRect.idx x = ix3 0 (row k (x 1)) (chan n hn (x 2)) := by
  funext a
  match a with
  | 0 => exact Fin.ext (by rw [Rect.idx_unit_val]; have h1 : (x 0).val < 1 := (x 0).isLt; show 0 + (x 0).val = 0; omega)
  | 1 => exact Fin.ext (by rw [Rect.idx_unit_val]; show k0_off2 k 1 + (x 1).val = 32 * k.val + (x 1).val; rw [off2_row])
  | 2 => exact Fin.ext (by rw [Rect.idx_unit_val]; rfl)

/-- An index of block `n` in trip `k`'s rows is among those that store writes. -/
theorem mem_dx (k : Fin k0_t1_loop.trips) {n : Nat} (hn : n < 40) (y : S1x128x5120.Idx) (h : blkOf (y 2) = n) (hk : (y 1).val / 32 = k.val) :
    y ∈ (Rect.unit (s := S1x128x5120) (off3 k n) S1x32x128.size (off3_inb k hn)).set := by
  refine Rect.mem_set_unit.mpr fun a => ?_
  have h' : (y 2).val / 128 = n := h
  match a with
  | 0 => exact ⟨Nat.zero_le _, (by show (y 0).val < 0 + 1; exact (y 0).isLt)⟩
  | 1 => exact ⟨(by show k0_off2 k 1 ≤ (y 1).val; rw [off2_row]; omega), (by show (y 1).val < k0_off2 k 1 + 32; rw [off2_row]; omega)⟩
  | 2 => exact ⟨(by show 128 * n ≤ (y 2).val; omega), (by show (y 2).val < 128 * n + 128; omega)⟩

/-- Two lists of parts of one array make one list of parts of it. -/
theorem piecesOf_append {s : Shape} {e : EltTy} {Val : EltTy → Type} {G : s.Idx → Val e} :
    ∀ {L L' : List (View.Piece Val s e)}, View.PiecesOf G L → View.PiecesOf G L' → View.PiecesOf G (L ++ L')
  | [], _, _, h' => h'
  | _ :: _, _, h, h' => ⟨h.1, piecesOf_append h.2 h'⟩

/-- A trip's stores to the input gradient store parts of one array, if each block's value is that array's. -/
theorem dxL_pieces (k : Fin k0_t1_loop.trips) (v : (n : Nat) → n < 40 → FVec F S1x32x128 .bf16) (G : S1x128x5120.Idx → F .bf16)
    (hG : ∀ n h i l, v n h (ix3 0 i l) = G (ix3 0 (row k i) (chan n h l))) (m : Nat) (hm : m ≤ 40) :
    View.PiecesOf (Val := Elt F) G (dxL k v m hm) := by
  induction m with
  | zero => exact trivial
  | succ m ih =>
    refine ⟨fun x => ?_, ih _⟩
    refine Eq.trans ?_ (congrArg G (idx_dx k hm x).symm)
    refine Eq.trans ?_ (hG m hm (x 1) (x 2))
    refine congrArg (v m hm) ((eq_ix3 x).trans ?_)
    exact congrArg (fun z => ix3 z (x 1) (x 2)) (Subsingleton.elim (α := Fin 1) _ _)

/-- A trip's stores to the input gradient write every index of its rows in the first `m` blocks. -/
theorem dxL_cover (k : Fin k0_t1_loop.trips) (v : (n : Nat) → n < 40 → FVec F S1x32x128 .bf16) (m : Nat) (hm : m ≤ 40)
    (y : S1x128x5120.Idx) (hy : blkOf (y 2) < m) (hk : (y 1).val / 32 = k.val) : ∃ p ∈ dxL k v m hm, y ∈ p.1.set := by
  induction m with
  | zero => exact absurd hy (Nat.not_lt_zero _)
  | succ m ih =>
    rcases Nat.lt_succ_iff_lt_or_eq.mp hy with h | h
    · obtain ⟨p, hp, hpy⟩ := ih (Nat.le_of_succ_le hm) h
      exact ⟨p, List.mem_cons_of_mem _ hp, hpy⟩
    · exact ⟨_, List.mem_cons_self, mem_dx k hm y h hk⟩

/-- Where a store to row `r`, block `n` of the block sums writes. -/
theorem emb_row {n r : Nat} (hn : n < 40) (hr : r < 3) (x : S1x1x1x128.Idx) :
    (Rect.unit (s := S1x1x3x5120) ![0, 0, r, 128 * n] S1x1x1x128.size (offb_inb hn hr)).emb x = ix4 0 0 ⟨r, hr⟩ (chan n hn (x 3)) := by
  funext a
  match a with
  | 0 => exact Fin.ext (by rw [Rect.emb_apply]; show 0 + 1 * (x 0).val = 0; have h1 : (x 0).val < 1 := (x 0).isLt; omega)
  | 1 => exact Fin.ext (by rw [Rect.emb_apply]; show 0 + 1 * (x 1).val = 0; have h1 : (x 1).val < 1 := (x 1).isLt; omega)
  | 2 => exact Fin.ext (by rw [Rect.emb_apply]; show r + 1 * (x 2).val = r; have h1 : (x 2).val < 1 := (x 2).isLt; omega)
  | 3 => exact Fin.ext (by rw [Rect.emb_apply]; show 128 * n + 1 * (x 3).val = 128 * n + (x 3).val; omega)

/-- An index of one row of one block is its lane. -/
theorem eq_lane (x : S1x1x1x128.Idx) : x = ix4 0 0 0 (x 3) :=
  (eq_ix4 x).trans (by
    rw [Subsingleton.elim (α := Fin 1) (x 0) 0, Subsingleton.elim (α := Fin 1) (x 1) 0, Subsingleton.elim (α := Fin 1) (x 2) 0]; rfl)

/-- A trip's stores to the block sums store parts of one array, if each block's three values are that array's. -/
theorem sumL_pieces (v0 v1 v2 : (n : Nat) → n < 40 → FVec F S1x1x1x128 .f32) (G : S1x1x3x5120.Idx → F .f32)
    (h0 : ∀ n h l, v0 n h (ix4 0 0 0 l) = G (ix4 0 0 0 (chan n h l)))
    (h1 : ∀ n h l, v1 n h (ix4 0 0 0 l) = G (ix4 0 0 1 (chan n h l)))
    (h2 : ∀ n h l, v2 n h (ix4 0 0 0 l) = G (ix4 0 0 2 (chan n h l))) (m : Nat) (hm : m ≤ 40) :
    View.PiecesOf (Val := Elt F) G (sumL v0 v1 v2 m hm) := by
  induction m with
  | zero => exact trivial
  | succ m ih =>
    refine ⟨fun x => ?_, fun x => ?_, fun x => ?_, ih _⟩
    · rw [emb_row hm (by decide) x]
      exact (congrArg (v2 m hm) (eq_lane x)).trans (h2 m hm (x 3))
    · rw [emb_row hm (by decide) x]
      exact (congrArg (v1 m hm) (eq_lane x)).trans (h1 m hm (x 3))
    · rw [emb_row hm (by decide) x]
      exact (congrArg (v0 m hm) (eq_lane x)).trans (h0 m hm (x 3))

/-- An index of row `r`, block `n` of the block sums is among those that store writes. -/
theorem mem_row {n r : Nat} (hn : n < 40) (hr : r < 3) (y : S1x1x3x5120.Idx) (h2 : (y 2).val = r) (h3 : blkOf (y 3) = n) :
    y ∈ (Rect.unit (s := S1x1x3x5120) ![0, 0, r, 128 * n] S1x1x1x128.size (offb_inb hn hr)).set := by
  refine Rect.mem_set_unit.mpr fun a => ?_
  have h' : (y 3).val / 128 = n := h3
  match a with
  | 0 => exact ⟨Nat.zero_le _, (by show (y 0).val < 0 + 1; exact (y 0).isLt)⟩
  | 1 => exact ⟨Nat.zero_le _, (by show (y 1).val < 0 + 1; exact (y 1).isLt)⟩
  | 2 => exact ⟨(by show r ≤ (y 2).val; omega), (by show (y 2).val < r + 1; omega)⟩
  | 3 => exact ⟨(by show 128 * n ≤ (y 3).val; omega), (by show (y 3).val < 128 * n + 128; omega)⟩

/-- A trip's stores to the block sums write every index of the first `m` blocks. -/
theorem sumL_cover (v0 v1 v2 : (n : Nat) → n < 40 → FVec F S1x1x1x128 .f32) (m : Nat) (hm : m ≤ 40)
    (y : S1x1x3x5120.Idx) (hy : blkOf (y 3) < m) : ∃ p ∈ sumL v0 v1 v2 m hm, y ∈ p.1.set := by
  induction m with
  | zero => exact absurd hy (Nat.not_lt_zero _)
  | succ m ih =>
    rcases Nat.lt_succ_iff_lt_or_eq.mp hy with h | h
    · obtain ⟨p, hp, hpy⟩ := ih (Nat.le_of_succ_le hm) h
      exact ⟨p, List.mem_cons_of_mem _ (List.mem_cons_of_mem _ (List.mem_cons_of_mem _ hp)), hpy⟩
    · have h3 : (y 2).val < 3 := (y 2).isLt
      rcases (by omega : (y 2).val = 2 ∨ (y 2).val = 1 ∨ (y 2).val = 0) with e | e | e
      · exact ⟨_, List.mem_cons_self, mem_row hm (by decide) y e h⟩
      · exact ⟨_, List.mem_cons_of_mem _ List.mem_cons_self, mem_row hm (by decide) y e h⟩
      · exact ⟨_, List.mem_cons_of_mem _ (List.mem_cons_of_mem _ List.mem_cons_self), mem_row hm (by decide) y e h⟩

end

end Cert.Trip

end
-- ==== Proof.PointSums.lean ====
/- A grid point's values over the extended reals: what its stores into the input gradient and into the block sums leave,
   in terms of the eight blocks it reads. -/
module

public import proofs.«01_k».proof.Proof.PointIdeal

@[expose] public section

noncomputable section

namespace Cert.Trip

open Cert.KernelIdeal Cert.KernelIdeal.Gen Idealize.ShloMosaic Idealize.ShloMosaic.TcCoe
open Idealize.ShloMosaic.Pointwise Cert.Spec Cert.Consts

/-- The codes `q` of a block under its scales `s`: row `r`'s channel `d`. -/
def deqB (q : S1x128x5120.Idx → EReal) (s : S1x128x40.Idx → EReal) (r : Fin 128) (d : Fin 5120) : EReal :=
  q (ix3 0 r d) * s (ix3 0 r ⟨d.val / 128, Nat.div_lt_of_lt_mul d.isLt⟩)

/-- What row `r` adds to row `rr` of the block sums. -/
def rowB (x0 : S1x128x5120.Idx → EReal) (x1 : S1x128x40.Idx → EReal) (x2 x3 : S1x128x5120.Idx → EReal) (x4 : S1x128x40.Idx → EReal)
    (x5 : S1x128x5120.Idx → EReal) (x6 : S1x128x40.Idx → EReal) (r : Fin 128) (rr : Fin 3) (d : Fin 5120) : EReal :=
  if rr.val < 1 then deqB x5 x6 r d
  else if rr.val - 1 < 1 then deqB x5 x6 r d * xhat (deqB x0 x1 r) d
  else deqB x3 x4 r d * x2 (ix3 0 r d)

/-- A block's dequantised value at block `n`'s channel `l`. -/
theorem deqB_chan (q : S1x128x5120.Idx → EReal) (s : S1x128x40.Idx → EReal) (r : Fin 128) (n : Nat) (h : n < 40) (l : Fin 128) :
    deqB q s r (chan n h l) = q (ix3 0 r (chan n h l)) * s (ix3 0 r ⟨n, h⟩) := by
  refine congrArg (fun z => q (ix3 0 r (chan n h l)) * s (ix3 0 r z)) (Fin.ext ?_)
  exact blkOf_chan n h l

/-- A load of 32 rows of a channel block, at an index. -/
theorem rd3_apply {e : EltTy} (a : Memref sig .tc .vmem S1x128x5120 e) (ha : a.IsWhole) (X : S1x128x5120.Idx → Elt Ideal e)
    (k : Fin k0_t1_loop.trips) (n : Nat) (h : n < 40) (i : Fin 32) (l : Fin 128) :
    rd3 k a (ha.unread X) n h (ix3 0 i l) = X (ix3 0 (row k i) (chan n h l)) :=
  (ha.readAt_unread X (Rect.unit (s := S1x128x5120) (off3 k n) S1x32x128.size (off3_inb k h)).toLoadRect (ix3 0 i l)).trans
    (congrArg X (idx_dx k h (ix3 0 i l)))

/-- A load of 32 rows of one block's scales, at an index. -/
theorem rdS_apply (a : Memref sig .tc .vmem S1x128x40 .f32) (ha : a.IsWhole) (X : S1x128x40.Idx → Elt Ideal .f32)
    (k : Fin k0_t1_loop.trips) (i : Fin 32) (n : Fin 40) : rdS k a (ha.unread X) (ix3 0 i n) = X (ix3 0 (row k i) n) := by
  refine (ha.readAt_unread X (Rect.unit (s := S1x128x40) (k0_off1 k) S1x32x40.size (k0_off1_inb k)).toLoadRect (ix3 0 i n)).trans (congrArg X ?_)
  funext a
  match a with
  | 0 => exact Fin.ext ((Rect.idx_unit_val _ _ _ _ _).trans (congrArg (· + 0) (congrFun (off1_row k) 0)))
  | 1 => exact Fin.ext ((Rect.idx_unit_val _ _ _ _ _).trans (congrArg (· + i.val) (congrFun (off1_row k) 1)))
  | 2 => exact Fin.ext ((Rect.idx_unit_val _ _ _ _ _).trans ((congrArg (· + n.val) (congrFun (off1_row k) 2)).trans (Nat.zero_add n.val)))

/-- A load of one block of the modulation's scale, at an index. -/
theorem rdM_apply (a : Memref sig .tc .vmem S1x1x5120 .f32) (ha : a.IsWhole) (X : S1x1x5120.Idx → Elt Ideal .f32)
    (n : Nat) (h : n < 40) (l : Fin 128) : rdM a (ha.unread X) n h (ix3 0 0 l) = X (ix3 0 0 (chan n h l)) := by
  refine (ha.readAt_unread X (Rect.unit (s := S1x1x5120) ![0, 0, 128 * n] S1x1x128.size (offm_inb h)).toLoadRect (ix3 0 0 l)).trans (congrArg X ?_)
  funext a
  match a with
  | 0 => rfl
  | 1 => rfl
  | 2 => exact Fin.ext (by rw [Rect.idx_unit_val]; rfl)

/-- A trip's dequantised activations are the block's at the trip's rows. -/
theorem deq4_rows (a : Memref sig .tc .vmem S1x128x5120 .fp8e4m3) (ha : a.IsWhole) (b : Memref sig .tc .vmem S1x128x40 .f32) (hb : b.IsWhole)
    (X : S1x128x5120.Idx → Elt Ideal .fp8e4m3) (S : S1x128x40.Idx → Elt Ideal .f32) (k : Fin k0_t1_loop.trips) :
    Rows (deq4 (rd3 k a (ha.unread X)) (rdS k b (hb.unread S))) (fun i => deqB X S (row k i)) := by
  intro n h i l
  pointwise [deq4, col, scales]
  rw [rd3_apply, deqB_chan]
  exact congrArg (X (ix3 0 (row k i) (chan n h l)) * ·) (rdS_apply b hb S k i ⟨n, h⟩)

/-- A trip's dequantised gradients are the block's at the trip's rows. -/
theorem deq5_rows (a : Memref sig .tc .vmem S1x128x5120 .fp8e5m2) (ha : a.IsWhole) (b : Memref sig .tc .vmem S1x128x40 .f32) (hb : b.IsWhole)
    (X : S1x128x5120.Idx → Elt Ideal .fp8e5m2) (S : S1x128x40.Idx → Elt Ideal .f32) (k : Fin k0_t1_loop.trips) :
    Rows (deq5 (rd3 k a (ha.unread X)) (rdS k b (hb.unread S))) (fun i => deqB X S (row k i)) := by
  intro n h i l
  pointwise [deq5, col, scales]
  rw [rd3_apply, deqB_chan]
  exact congrArg (X (ix3 0 (row k i) (chan n h l)) * ·) (rdS_apply b hb S k i ⟨n, h⟩)

/-- A trip's branch outputs are the block's at the trip's rows. -/
theorem wide_rows (a : Memref sig .tc .vmem S1x128x5120 .bf16) (ha : a.IsWhole)
    (X : S1x128x5120.Idx → Elt Ideal .bf16) (k : Fin k0_t1_loop.trips) :
    Rows (wide (rd3 k a (ha.unread X))) (fun i d => X (ix3 0 (row k i) d)) := by
  intro n h i l
  pointwise [wide]
  rw [rd3_apply]

/-- What a trip reads back of a scratch buffer is what it kept there. -/
theorem back_rows (a : Memref sig .tc .vmem S32x5120 .f32) (v : (n : Nat) → n < 40 → FVec Ideal S32x128 .f32)
    (x : Fin 32 → Fin 5120 → EReal) (hv : Rows v x) : Rows (back a v) x :=
  fun n h i l => (back_apply a v n h i l).trans (hv n h i l)

section
variable (arg2 : Memref sig .tc .vmem S1x128x5120 .fp8e4m3) (harg2 : arg2.IsWhole)
  (arg3 : Memref sig .tc .vmem S1x128x40 .f32) (harg3 : arg3.IsWhole)
  (arg4 : Memref sig .tc .vmem S1x128x5120 .bf16) (harg4 : arg4.IsWhole)
  (arg5 : Memref sig .tc .vmem S1x128x5120 .fp8e5m2) (harg5 : arg5.IsWhole)
  (arg6 : Memref sig .tc .vmem S1x128x40 .f32) (harg6 : arg6.IsWhole)
  (arg7 : Memref sig .tc .vmem S1x128x5120 .fp8e5m2) (harg7 : arg7.IsWhole)
  (arg8 : Memref sig .tc .vmem S1x128x40 .f32) (harg8 : arg8.IsWhole)
  (arg9 : Memref sig .tc .vmem S1x1x5120 .f32) (harg9 : arg9.IsWhole)
  (arg12 : Memref sig .tc .vmem S1x1x3x5120 .f32)
  (arg13 : Memref sig .tc .vmem S32x5120 .f32) (arg14 : Memref sig .tc .vmem S32x5120 .f32)
  (x0 : S1x128x5120.Idx → Elt Ideal .fp8e4m3) (x1 : S1x128x40.Idx → Elt Ideal .f32) (x2 : S1x128x5120.Idx → Elt Ideal .bf16)
  (x3 : S1x128x5120.Idx → Elt Ideal .fp8e5m2) (x4 : S1x128x40.Idx → Elt Ideal .f32)
  (x5 : S1x128x5120.Idx → Elt Ideal .fp8e5m2) (x6 : S1x128x40.Idx → Elt Ideal .f32) (x7 : S1x1x5120.Idx → Elt Ideal .f32)

/-- The input gradient at row `r`, channel `d` of the point. -/
def dxB (r : Fin 128) (d : Fin 5120) : EReal :=
  dx (deqB x0 x1 r) (deqB x5 x6 r) (deqB x3 x4 r) (fun e => x7 (ix3 0 0 e)) d

/-- A trip's blocks of the input gradient are its rows' input gradients. -/
theorem dxT_apply (k : Fin k0_t1_loop.trips) (n : Nat) (h : n < 40) (i : Fin 32) (l : Fin 128) :
    dxT (F := Ideal) arg2 arg3 arg5 arg6 arg7 arg8 arg9 arg13 arg14 (harg2.unread x0) (harg3.unread x1) (harg5.unread x3) (harg6.unread x4)
      (harg7.unread x5) (harg8.unread x6) (harg9.unread x7) k n h (ix3 0 i l)
      = dxB x0 x1 x3 x4 x5 x6 x7 (row k i) (chan n h l) :=
  dxBlk_apply _ _ _ _ _ _ _ _ _ (fun i => deqB x0 x1 (row k i)) (fun i => deqB x5 x6 (row k i)) (fun i => deqB x3 x4 (row k i))
    (fun e => x7 (ix3 0 0 e))
    (deq4_rows arg2 harg2 arg3 harg3 x0 x1 k) (deq5_rows arg7 harg7 arg8 harg8 x5 x6 k)
    (back_rows arg13 _ _ (deq4_rows arg2 harg2 arg3 harg3 x0 x1 k)) (back_rows arg14 _ _ (deq5_rows arg7 harg7 arg8 harg8 x5 x6 k))
    (rdM_apply arg9 harg9 x7) (deq5_rows arg5 harg5 arg6 harg6 x3 x4 k) n h i l

/-- The input gradient's stores so far are pieces of the rows' input gradients. -/
theorem dxAll_pieces (n : Nat) : View.PiecesOf (Val := Elt Ideal) (fun y : S1x128x5120.Idx => dxB x0 x1 x3 x4 x5 x6 x7 (y 1) (y 2))
    (dxAll (F := Ideal) arg2 arg3 arg5 arg6 arg7 arg8 arg9 arg13 arg14 (harg2.unread x0) (harg3.unread x1) (harg5.unread x3) (harg6.unread x4)
      (harg7.unread x5) (harg8.unread x6) (harg9.unread x7) n) := by
  induction n with
  | zero => exact trivial
  | succ n ih =>
    rw [dxAll]
    split
    · rename_i h
      have hp := dxL_pieces (F := Ideal) ⟨n, h⟩ (dxT (F := Ideal) arg2 arg3 arg5 arg6 arg7 arg8 arg9 arg13 arg14 (harg2.unread x0) (harg3.unread x1)
        (harg5.unread x3) (harg6.unread x4) (harg7.unread x5) (harg8.unread x6) (harg9.unread x7) ⟨n, h⟩)
        (fun y : S1x128x5120.Idx => dxB x0 x1 x3 x4 x5 x6 x7 (y 1) (y 2))
        (dxT_apply arg2 harg2 arg3 harg3 arg5 harg5 arg6 harg6 arg7 harg7 arg8 harg8 arg9 harg9 arg13 arg14 x0 x1 x3 x4 x5 x6 x7 ⟨n, h⟩) 40 le_rfl
      exact piecesOf_append hp ih
    · exact ih

/-- The trips before `n` store the rows before `32 n`. -/
theorem dxAll_cover (n : Nat) (hn : n ≤ k0_t1_loop.trips) (y : S1x128x5120.Idx) (hy : (y 1).val / 32 < n) :
    ∃ p ∈ dxAll (F := Ideal) arg2 arg3 arg5 arg6 arg7 arg8 arg9 arg13 arg14 (harg2.unread x0) (harg3.unread x1) (harg5.unread x3) (harg6.unread x4)
      (harg7.unread x5) (harg8.unread x6) (harg9.unread x7) n, y ∈ p.1.set := by
  induction n with
  | zero => exact absurd hy (Nat.not_lt_zero _)
  | succ n ih =>
    have h : n < k0_t1_loop.trips := hn
    rw [dxAll, dif_pos h]
    rcases Nat.lt_succ_iff_lt_or_eq.mp hy with h' | h'
    · obtain ⟨p, hp, hpy⟩ := ih (Nat.le_of_lt h) h'
      exact ⟨p, List.mem_append_right _ hp, hpy⟩
    · obtain ⟨p, hp, hpy⟩ := dxL_cover ⟨n, h⟩ (dxT (F := Ideal) arg2 arg3 arg5 arg6 arg7 arg8 arg9 arg13 arg14 (harg2.unread x0) (harg3.unread x1)
        (harg5.unread x3) (harg6.unread x4) (harg7.unread x5) (harg8.unread x6) (harg9.unread x7) ⟨n, h⟩) 40 le_rfl y (blkOf_lt _) h'
      exact ⟨p, List.mem_append_left _ hp, hpy⟩

/-- The loop leaves every row's input gradient. -/
theorem dxAll_apply (y : S1x128x5120.Idx) :
    View.canon (dxAll (F := Ideal) arg2 arg3 arg5 arg6 arg7 arg8 arg9 arg13 arg14 (harg2.unread x0) (harg3.unread x1) (harg5.unread x3) (harg6.unread x4)
      (harg7.unread x5) (harg8.unread x6) (harg9.unread x7) 4) y = dxB x0 x1 x3 x4 x5 x6 x7 (y 1) (y 2) :=
  View.canon_apply_of_pieces (fun y : S1x128x5120.Idx => dxB x0 x1 x3 x4 x5 x6 x7 (y 1) (y 2)) _
    (dxAll_pieces arg2 harg2 arg3 harg3 arg5 harg5 arg6 harg6 arg7 harg7 arg8 harg8 arg9 harg9 arg13 arg14 x0 x1 x3 x4 x5 x6 x7 4).mem y
    (dxAll_cover arg2 harg2 arg3 harg3 arg5 harg5 arg6 harg6 arg7 harg7 arg8 harg8 arg9 harg9 arg13 arg14 x0 x1 x3 x4 x5 x6 x7 4 (by decide) y
      (by have h : (y 1).val < 128 := (y 1).isLt; omega))

/-- What the rows of trip `k` add to row `rr` of the block sums. -/
def tripB (k : Fin k0_t1_loop.trips) (rr : Fin 3) (d : Fin 5120) : EReal :=
  ∑ i : Fin 32, rowB x0 x1 x2 x3 x4 x5 x6 (row k i) rr d

/-- What the trips before `n` add. -/
def sumTo (rr : Fin 3) (d : Fin 5120) : Nat → EReal
  | 0 => 0
  | n + 1 => if h : n < k0_t1_loop.trips then sumTo rr d n + tripB x0 x1 x2 x3 x4 x5 x6 ⟨n, h⟩ rr d else sumTo rr d n

/-- The four trips add the 128 rows. -/
theorem sumTo_four (rr : Fin 3) (d : Fin 5120) :
    sumTo x0 x1 x2 x3 x4 x5 x6 rr d 4 = ∑ r : Fin 128, rowB x0 x1 x2 x3 x4 x5 x6 r rr d := by
  have e : (∑ r : Fin 128, rowB x0 x1 x2 x3 x4 x5 x6 r rr d) = ∑ k : Fin 4, ∑ i : Fin 32, rowB x0 x1 x2 x3 x4 x5 x6 ⟨32 * k.val + i.val, by omega⟩ rr d := by
    rw [← Finset.sum_product']
    refine (Fintype.sum_equiv (finProdFinEquiv (m := 4) (n := 32)) _ _ fun p => ?_).symm
    congr 1
    apply Fin.ext
    show 32 * p.1.val + p.2.val = p.2.val + 32 * p.1.val
    omega
  rw [e, Fin.sum_univ_four]
  simp only [sumTo]
  rw [dif_pos (by decide), dif_pos (by decide), dif_pos (by decide), dif_pos (by decide), zero_add]
  rfl

section
variable (Z : List (View.Piece (Elt Ideal) S1x1x3x5120 .f32))

/-- A load of the block sums reads what the stores so far leave. -/
theorem rdB_apply (L : List (View.Piece (Elt Ideal) S1x1x3x5120 .f32)) (n r : Nat) (hr : r < 3) (h : n < 40) (l : Fin 128) :
    rdB arg12 (arg12.view.writes (Elt Ideal) (arg12.view.writes (Elt Ideal) arg12.view.junk Z) L) n r hr h (ix4 0 0 0 l)
      = View.canon (L ++ Z) (ix4 0 0 ⟨r, hr⟩ (chan n h l)) := by
  rw [← View.writes_append]
  refine (congrFun (View.readAt_writes_junk_eq_canon arg12.view (L ++ Z)
    (Rect.unit (s := S1x1x3x5120) ![0, 0, r, 128 * n] S1x1x1x128.size (offb_inb h hr)).toLoadRect) (ix4 0 0 0 l)).trans ?_
  exact congrArg (View.canon (L ++ Z)) (emb_row h hr (ix4 0 0 0 l))

/-- A trip's stores into the block sums are its rows' sums onto what the sums held. -/
theorem sumT_pieces (L : List (View.Piece (Elt Ideal) S1x1x3x5120 .f32)) (k : Fin k0_t1_loop.trips) :
    View.PiecesOf (Val := Elt Ideal) (fun y : S1x1x3x5120.Idx => View.canon (L ++ Z) (ix4 0 0 (y 2) (y 3)) + tripB x0 x1 x2 x3 x4 x5 x6 k (y 2) (y 3))
      (sumT (F := Ideal) arg2 arg3 arg4 arg5 arg6 arg7 arg8 arg12 arg13 arg14 (harg2.unread x0) (harg3.unread x1) (harg4.unread x2)
        (harg5.unread x3) (harg6.unread x4) (harg7.unread x5) (harg8.unread x6) k
        (arg12.view.writes (Elt Ideal) (arg12.view.writes (Elt Ideal) arg12.view.junk Z) L)) := by
  rw [sumT]
  refine sumL_pieces (F := Ideal) _ _ _ (fun y : S1x1x3x5120.Idx => View.canon (L ++ Z) (ix4 0 0 (y 2) (y 3)) + tripB x0 x1 x2 x3 x4 x5 x6 k (y 2) (y 3))
    (fun m hm l => ?_) (fun m hm l => ?_) (fun m hm l => ?_) 40 le_rfl
  · rw [sumOnto_apply, rdB_apply]
    refine congrArg (_ + ·) (Finset.sum_congr rfl fun i _ => ?_)
    exact back_rows arg14 _ _ (deq5_rows arg7 harg7 arg8 harg8 x5 x6 k) m hm i l
  · rw [sumOnto_apply, rdB_apply]
    refine congrArg (_ + ·) (Finset.sum_congr rfl fun i _ => ?_)
    exact congrArg₂ (· * ·) (back_rows arg14 _ _ (deq5_rows arg7 harg7 arg8 harg8 x5 x6 k) m hm i l)
      (hatBlk_apply _ _ _ _ (deq4_rows arg2 harg2 arg3 harg3 x0 x1 k)
        (back_rows arg13 _ _ (deq4_rows arg2 harg2 arg3 harg3 x0 x1 k)) m hm i l)
  · rw [sumOnto_apply, rdB_apply]
    refine congrArg (_ + ·) (Finset.sum_congr rfl fun i _ => ?_)
    exact congrArg₂ (· * ·) (deq5_rows arg5 harg5 arg6 harg6 x3 x4 k m hm i l) (wide_rows arg4 harg4 x2 k m hm i l)

/-- The loop's stores into the block sums, from sums at `Z`. -/
abbrev sums (n : Nat) : List (View.Piece (Elt Ideal) S1x1x3x5120 .f32) :=
  sumAll (F := Ideal) arg2 arg3 arg4 arg5 arg6 arg7 arg8 arg12 arg13 arg14 (harg2.unread x0) (harg3.unread x1) (harg4.unread x2)
    (harg5.unread x3) (harg6.unread x4) (harg7.unread x5) (harg8.unread x6) (arg12.view.writes (Elt Ideal) arg12.view.junk Z) n

/-- The trips before `n` leave the sums of their rows. -/
theorem sums_apply (hZ : ∀ rr d, View.canon Z (ix4 0 0 rr d) = (0 : EReal)) (n : Nat) (hn : n ≤ k0_t1_loop.trips) (rr : Fin 3) (d : Fin 5120) :
    View.canon (sums arg2 harg2 arg3 harg3 arg4 harg4 arg5 harg5 arg6 harg6 arg7 harg7 arg8 harg8 arg12 arg13 arg14 x0 x1 x2 x3 x4 x5 x6 Z n ++ Z)
      (ix4 0 0 rr d) = sumTo x0 x1 x2 x3 x4 x5 x6 rr d n := by
  induction n generalizing rr d with
  | zero => exact hZ rr d
  | succ n ih =>
    have h : n < k0_t1_loop.trips := hn
    have ih' := ih (Nat.le_of_lt h)
    rw [sums, sumAll, dif_pos h, List.append_assoc, sumTo, dif_pos h, ← ih']
    exact View.canon_append_of_piecesOf _ _ _ (sumT_pieces arg2 harg2 arg3 harg3 arg4 harg4 arg5 harg5 arg6 harg6 arg7 harg7 arg8 harg8 arg12 arg13 arg14
      x0 x1 x2 x3 x4 x5 x6 Z _ ⟨n, h⟩) (ix4 0 0 rr d) (sumL_cover _ _ _ 40 le_rfl _ (blkOf_lt _))

/-- The loop leaves the sums of the point's 128 rows. -/
theorem sums_four (hZ : ∀ rr d, View.canon Z (ix4 0 0 rr d) = (0 : EReal)) (rr : Fin 3) (d : Fin 5120) :
    View.canon (sums arg2 harg2 arg3 harg3 arg4 harg4 arg5 harg5 arg6 harg6 arg7 harg7 arg8 harg8 arg12 arg13 arg14 x0 x1 x2 x3 x4 x5 x6 Z 4 ++ Z)
      (ix4 0 0 rr d) = ∑ r : Fin 128, rowB x0 x1 x2 x3 x4 x5 x6 r rr d :=
  (sums_apply arg2 harg2 arg3 harg3 arg4 harg4 arg5 harg5 arg6 harg6 arg7 harg7 arg8 harg8 arg12 arg13 arg14 x0 x1 x2 x3 x4 x5 x6 Z hZ 4
    (by decide) rr d).trans (sumTo_four x0 x1 x2 x3 x4 x5 x6 rr d)

end

end

end Cert.Trip

end
-- ==== Proof.PointOut.lean ====
/- What a grid point leaves in the three output blocks, over the extended reals: in the first point of a batch, whose sums
   of the modulation's gradient start at zero, and in a later one, whose sums go on from what the point before left. -/
module

public import proofs.«01_k».proof.Proof.PointFrame
public import proofs.«01_k».proof.Proof.PointSums

@[expose] public section

noncomputable section

namespace Cert.Trip

open Cert.KernelIdeal Cert.KernelIdeal.Gen Idealize.ShloMosaic Idealize.ShloMosaic.TcCoe Idealize.ShloMosaic.Tactic
open Idealize.ShloMosaic.Pointwise Cert.Spec Cert.Consts

/-- The block sums start at zero. -/
abbrev zeros : List (View.Piece (Elt Ideal) S1x1x3x5120 .f32) :=
  [⟨Rect.unit ![0, 0, 0, 0] S1x1x3x5120.size inb_S1x1x3x5120_S1x1x3x5120_0_0_0_0, k0_pay1 (F := Ideal)⟩]

/-- The zeroed block sums are zero at every index. -/
theorem zeros_apply (rr : Fin 3) (d : Fin 5120) : View.canon zeros (ix4 0 0 rr d) = (0 : EReal) := by
  have h := congrFun (View.canon_cons_unit_lit (Val := Elt Ideal) (e := .f32) inb_S1x1x3x5120_S1x1x3x5120_0_0_0_0 (k0_pay1 (F := Ideal)) [] (by decide)) (ix4 0 0 rr d)
  refine Eq.trans h ?_
  pointwise [k0_pay1]

/-- The point's block sums added to what the modulation's gradient held. -/
theorem pay3_apply (v6 : Vec Ideal S1x3x5120 .f32) (v8 : Vec Ideal S1x1x3x5120 .f32) (rr : Fin 3) (d : Fin 5120) :
    k0_pay3 v6 v8 (ix3 0 rr d) = v6 (ix3 0 rr d) + v8 (ix4 0 0 rr d) := by
  pointwise [k0_pay3]

/-- A load of the whole block sums reads what the stores leave. -/
theorem readCov_sums (a : Memref sig .tc .vmem S1x1x3x5120 .f32) (L : List (View.Piece (Elt Ideal) S1x1x3x5120 .f32)) (rr : Fin 3) (d : Fin 5120) :
    a.view.readCov L (Rect.unit (s := S1x1x3x5120) ![0, 0, 0, 0] S1x1x3x5120.size inb_S1x1x3x5120_S1x1x3x5120_0_0_0_0).toLoadRect (ix4 0 0 rr d)
      = View.canon L (ix4 0 0 rr d) := by
  refine (congrFun (View.readCov_eq_canon' a.view L
    (Rect.unit (s := S1x1x3x5120) ![0, 0, 0, 0] S1x1x3x5120.size inb_S1x1x3x5120_S1x1x3x5120_0_0_0_0).toLoadRect) (ix4 0 0 rr d)).trans ?_
  refine congrArg (View.canon L) (funext fun b => ?_)
  match b with
  | 0 => exact Fin.ext (by rw [Rect.idx_unit_val]; rfl)
  | 1 => exact Fin.ext (by rw [Rect.idx_unit_val]; rfl)
  | 2 => exact Fin.ext (by rw [Rect.idx_unit_val]; exact Nat.zero_add rr.val)
  | 3 => exact Fin.ext (by rw [Rect.idx_unit_val]; exact Nat.zero_add d.val)

/-- A load of the whole modulation's gradient reads each index at itself. -/
theorem idx_dmod (rr : Fin 3) (d : Fin 5120) :
    (Rect.unit (s := S1x3x5120) ![0, 0, 0] S1x3x5120.size inb_S1x3x5120_S1x3x5120_0_0_0).toLoadRect.idx (ix3 0 rr d) = ix3 0 rr d := by
  funext b
  match b with
  | 0 => exact Fin.ext (by rw [Rect.idx_unit_val]; rfl)
  | 1 => exact Fin.ext (by rw [Rect.idx_unit_val]; exact Nat.zero_add rr.val)
  | 2 => exact Fin.ext (by rw [Rect.idx_unit_val]; exact Nat.zero_add d.val)

/-- In the first point of a batch the modulation's gradient starts at zero. -/
theorem v6_apply (c : Dev nD) (a : Memref sig .tc .vmem S1x3x5120 .f32) (rr : Fin 3) (d : Fin 5120) :
    kernelRun0_A.sl.v6 (F := Ideal) c a (ix3 0 rr d) = (0 : EReal) := by
  have e := congrFun (View.readCov_eq_canon' a.view (kernelRun0_A.sl.H9_1 (F := Ideal))
    (Rect.unit (s := S1x3x5120) ![0, 0, 0] S1x3x5120.size inb_S1x3x5120_S1x3x5120_0_0_0).toLoadRect) (ix3 0 rr d)
  have h := congrFun (View.canon_cons_unit_lit (Val := Elt Ideal) (e := .f32) inb_S1x3x5120_S1x3x5120_0_0_0 (k0_pay2 (F := Ideal)) [] (by decide)) (ix3 0 rr d)
  have z : k0_pay2 (F := Ideal) (ix3 0 rr d) = (0 : EReal) := by pointwise [k0_pay2]
  exact Eq.trans e (Eq.trans (congrArg (View.canon (kernelRun0_A.sl.H9_1 (F := Ideal))) (idx_dmod rr d)) (Eq.trans h z))

section
variable
  (c : Dev nD) (i : grid0.Coords) (arg2 : Memref sig .tc .vmem S1x128x5120 .fp8e4m3) (harg2 : arg2.IsWhole) (arg3 : Memref sig .tc .vmem S1x128x40 .f32) (harg3 :
  arg3.IsWhole) (arg4 : Memref sig .tc .vmem S1x128x5120 .bf16) (harg4 : arg4.IsWhole) (arg5 : Memref sig .tc .vmem S1x128x5120 .fp8e5m2) (harg5 : arg5.IsWhole) (arg6 :
  Memref sig .tc .vmem S1x128x40 .f32) (harg6 : arg6.IsWhole) (arg7 : Memref sig .tc .vmem S1x128x5120 .fp8e5m2) (harg7 : arg7.IsWhole) (arg8 : Memref sig .tc .vmem
  S1x128x40 .f32) (harg8 : arg8.IsWhole) (arg9 : Memref sig .tc .vmem S1x1x5120 .f32) (harg9 : arg9.IsWhole) (arg10 : Memref sig .tc .vmem S1x128x5120 .bf16) (harg10 :
  arg10.IsWhole) (arg11 : Memref sig .tc .vmem S1x3x5120 .f32) (harg11 : arg11.IsWhole) (arg12 : Memref sig .tc .vmem S1x1x3x5120 .f32) (harg12 : arg12.IsWhole) (arg13 :
  Memref sig .tc .vmem S32x5120 .f32) (harg13 : arg13.IsWhole) (arg14 : Memref sig .tc .vmem S32x5120 .f32) (harg14 : arg14.IsWhole) (x0 : Vec Ideal S1x128x5120 .fp8e4m3)
  (x1 : Vec Ideal S1x128x40 .f32) (x2 : Vec Ideal S1x128x5120 .bf16) (x3 : Vec Ideal S1x128x5120 .fp8e5m2) (x4 : Vec Ideal S1x128x40 .f32) (x5 : Vec Ideal S1x128x5120
  .fp8e5m2) (x6 : Vec Ideal S1x128x40 .f32) (x7 : Vec Ideal S1x1x5120 .f32)

section
variable (hc0 : cond0_0 i)

/-- The stores a first point makes into the input gradient. -/
theorem pieces_A_8 :
    (kernelRun0_A (F := Ideal) c i arg2 harg2 arg3 harg3 arg4 harg4 arg5 harg5 arg6 harg6 arg7 harg7 arg8 harg8 arg9 harg9 arg10 harg10 arg11 harg11 arg12 harg12 arg13
    harg13 arg14 harg14 hc0 x0 x1 x2 x3 x4 x5 x6 x7).1
      = dxAll (F := Ideal) arg2 arg3 arg5 arg6 arg7 arg8 arg9 arg13 arg14 (harg2.unread x0) (harg3.unread x1) (harg5.unread x3) (harg6.unread x4) (harg7.unread x5) (harg8.unread x6) (harg9.unread x7) 4 := by
  sl_kernel_rfl

/-- The stores a first point makes into the modulation's gradient. -/
theorem pieces_A_9 :
    (kernelRun0_A (F := Ideal) c i arg2 harg2 arg3 harg3 arg4 harg4 arg5 harg5 arg6 harg6 arg7 harg7 arg8 harg8 arg9 harg9 arg10 harg10 arg11 harg11 arg12 harg12 arg13
    harg13 arg14 harg14 hc0 x0 x1 x2 x3 x4 x5 x6 x7).2.1
      = ⟨Rect.unit ![0, 0, 0] S1x3x5120.size inb_S1x3x5120_S1x3x5120_0_0_0, k0_pay3 (kernelRun0_A.sl.v6 (F := Ideal) c arg11)
          (arg12.view.readCov (sums arg2 harg2 arg3 harg3 arg4 harg4 arg5 harg5 arg6 harg6 arg7 harg7 arg8 harg8 arg12 arg13 arg14 x0 x1 x2 x3 x4 x5 x6 zeros 4 ++ zeros)
            (Rect.unit (s := S1x1x3x5120) ![0, 0, 0, 0] S1x1x3x5120.size inb_S1x1x3x5120_S1x1x3x5120_0_0_0_0).toLoadRect)⟩ :: [⟨Rect.unit ![0, 0, 0] S1x3x5120.size inb_S1x3x5120_S1x3x5120_0_0_0, k0_pay2 (F := Ideal)⟩] := by
  sl_kernel_rfl

/-- The stores a first point makes into the block sums. -/
theorem pieces_A_10 :
    (kernelRun0_A (F := Ideal) c i arg2 harg2 arg3 harg3 arg4 harg4 arg5 harg5 arg6 harg6 arg7 harg7 arg8 harg8 arg9 harg9 arg10 harg10 arg11 harg11 arg12 harg12 arg13
    harg13 arg14 harg14 hc0 x0 x1 x2 x3 x4 x5 x6 x7).2.2.1
      = sums arg2 harg2 arg3 harg3 arg4 harg4 arg5 harg5 arg6 harg6 arg7 harg7 arg8 harg8 arg12 arg13 arg14 x0 x1 x2 x3 x4 x5 x6 zeros 4 ++ zeros := by
  sl_kernel_rfl

/-- The point's input gradient. -/
theorem out_A_8 (y : S1x128x5120.Idx) :
    out0_A_8 (F := Ideal) c i arg2 harg2 arg3 harg3 arg4 harg4 arg5 harg5 arg6 harg6 arg7 harg7 arg8 harg8 arg9 harg9 arg10 harg10 arg11 harg11 arg12 harg12 arg13 harg13
    arg14 harg14 hc0 x0 x1 x2 x3 x4 x5 x6 x7 y
      = dxB x0 x1 x3 x4 x5 x6 x7 (y 1) (y 2) := by
  unfold out0_A_8
  rw [View.read_writes_junk_apply_eq_canon, pieces_A_8]
  exact dxAll_apply arg2 harg2 arg3 harg3 arg5 harg5 arg6 harg6 arg7 harg7 arg8 harg8 arg9 harg9 arg13 arg14 x0 x1 x3 x4 x5 x6 x7 y

/-- The point's block sums. -/
theorem out_A_10 (rr : Fin 3) (d : Fin 5120) :
    out0_A_10 (F := Ideal) c i arg2 harg2 arg3 harg3 arg4 harg4 arg5 harg5 arg6 harg6 arg7 harg7 arg8 harg8 arg9 harg9 arg10 harg10 arg11 harg11 arg12 harg12 arg13 harg13
    arg14 harg14 hc0 x0 x1 x2 x3 x4 x5 x6 x7 (ix4 0 0 rr d)
      = ∑ r : Fin 128, rowB x0 x1 x2 x3 x4 x5 x6 r rr d := by
  unfold out0_A_10
  rw [View.read_writes_junk_apply_eq_canon, pieces_A_10]
  exact sums_four arg2 harg2 arg3 harg3 arg4 harg4 arg5 harg5 arg6 harg6 arg7 harg7 arg8 harg8 arg12 arg13 arg14 x0 x1 x2 x3 x4 x5 x6 zeros zeros_apply rr d

/-- The modulation's gradient so far. -/
theorem out_A_9 (rr : Fin 3) (d : Fin 5120) :
    out0_A_9 (F := Ideal) c i arg2 harg2 arg3 harg3 arg4 harg4 arg5 harg5 arg6 harg6 arg7 harg7 arg8 harg8 arg9 harg9 arg10 harg10 arg11 harg11 arg12 harg12 arg13 harg13
    arg14 harg14 hc0 x0 x1 x2 x3 x4 x5 x6 x7 (ix3 0 rr d)
      = ∑ r : Fin 128, rowB x0 x1 x2 x3 x4 x5 x6 r rr d := by
  unfold out0_A_9
  rw [View.read_writes_junk_apply_eq_canon, pieces_A_9]
  refine (congrFun (View.canon_cons_unit_lit inb_S1x3x5120_S1x3x5120_0_0_0 _ _ (by decide)) _).trans ?_
  rw [pay3_apply, readCov_sums, sums_four arg2 harg2 arg3 harg3 arg4 harg4 arg5 harg5 arg6 harg6 arg7 harg7 arg8 harg8 arg12 arg13 arg14 x0 x1 x2 x3 x4 x5 x6 zeros zeros_apply rr d]
  refine (congrArg (· + _) ?_).trans (zero_add _)
  exact v6_apply c arg11 rr d

end

section
variable (hc0 : ¬cond0_0 i) (xo9 : Vec Ideal S1x3x5120 .f32)

/-- The stores a later point makes into the input gradient. -/
theorem pieces_B_8 :
    (kernelRun0_B (F := Ideal) c i arg2 harg2 arg3 harg3 arg4 harg4 arg5 harg5 arg6 harg6 arg7 harg7 arg8 harg8 arg9 harg9 arg10 harg10 arg11 harg11 arg12 harg12 arg13
    harg13 arg14 harg14 hc0 x0 x1 x2 x3 x4 x5 x6 x7 xo9).1
      = dxAll (F := Ideal) arg2 arg3 arg5 arg6 arg7 arg8 arg9 arg13 arg14 (harg2.unread x0) (harg3.unread x1) (harg5.unread x3) (harg6.unread x4) (harg7.unread x5) (harg8.unread x6) (harg9.unread x7) 4 := by
  sl_kernel_rfl

/-- The stores a later point makes into the modulation's gradient. -/
theorem pieces_B_9 :
    (kernelRun0_B (F := Ideal) c i arg2 harg2 arg3 harg3 arg4 harg4 arg5 harg5 arg6 harg6 arg7 harg7 arg8 harg8 arg9 harg9 arg10 harg10 arg11 harg11 arg12 harg12 arg13
    harg13 arg14 harg14 hc0 x0 x1 x2 x3 x4 x5 x6 x7 xo9).2.1
      = ⟨Rect.unit ![0, 0, 0] S1x3x5120.size inb_S1x3x5120_S1x3x5120_0_0_0, k0_pay3 (View.readAt (Elt Ideal) arg11.view (Rect.unit (s := S1x3x5120) ![0, 0, 0] S1x3x5120.size inb_S1x3x5120_S1x3x5120_0_0_0).toLoadRect (harg11.unread xo9))
          (arg12.view.readCov (sums arg2 harg2 arg3 harg3 arg4 harg4 arg5 harg5 arg6 harg6 arg7 harg7 arg8 harg8 arg12 arg13 arg14 x0 x1 x2 x3 x4 x5 x6 zeros 4 ++ zeros)
            (Rect.unit (s := S1x1x3x5120) ![0, 0, 0, 0] S1x1x3x5120.size inb_S1x1x3x5120_S1x1x3x5120_0_0_0_0).toLoadRect)⟩ :: [] := by
  sl_kernel_rfl

/-- The stores a later point makes into the block sums. -/
theorem pieces_B_10 :
    (kernelRun0_B (F := Ideal) c i arg2 harg2 arg3 harg3 arg4 harg4 arg5 harg5 arg6 harg6 arg7 harg7 arg8 harg8 arg9 harg9 arg10 harg10 arg11 harg11 arg12 harg12 arg13
    harg13 arg14 harg14 hc0 x0 x1 x2 x3 x4 x5 x6 x7 xo9).2.2.1
      = sums arg2 harg2 arg3 harg3 arg4 harg4 arg5 harg5 arg6 harg6 arg7 harg7 arg8 harg8 arg12 arg13 arg14 x0 x1 x2 x3 x4 x5 x6 zeros 4 ++ zeros := by
  sl_kernel_rfl

/-- The point's input gradient. -/
theorem out_B_8 (y : S1x128x5120.Idx) :
    out0_B_8 (F := Ideal) c i arg2 harg2 arg3 harg3 arg4 harg4 arg5 harg5 arg6 harg6 arg7 harg7 arg8 harg8 arg9 harg9 arg10 harg10 arg11 harg11 arg12 harg12 arg13 harg13
    arg14 harg14 hc0 x0 x1 x2 x3 x4 x5 x6 x7 xo9 y
      = dxB x0 x1 x3 x4 x5 x6 x7 (y 1) (y 2) := by
  unfold out0_B_8
  rw [View.read_writes_junk_apply_eq_canon, pieces_B_8]
  exact dxAll_apply arg2 harg2 arg3 harg3 arg5 harg5 arg6 harg6 arg7 harg7 arg8 harg8 arg9 harg9 arg13 arg14 x0 x1 x3 x4 x5 x6 x7 y

/-- The point's block sums. -/
theorem out_B_10 (rr : Fin 3) (d : Fin 5120) :
    out0_B_10 (F := Ideal) c i arg2 harg2 arg3 harg3 arg4 harg4 arg5 harg5 arg6 harg6 arg7 harg7 arg8 harg8 arg9 harg9 arg10 harg10 arg11 harg11 arg12 harg12 arg13 harg13
    arg14 harg14 hc0 x0 x1 x2 x3 x4 x5 x6 x7 xo9 (ix4 0 0 rr d)
      = ∑ r : Fin 128, rowB x0 x1 x2 x3 x4 x5 x6 r rr d := by
  unfold out0_B_10
  rw [View.read_writes_junk_apply_eq_canon, pieces_B_10]
  exact sums_four arg2 harg2 arg3 harg3 arg4 harg4 arg5 harg5 arg6 harg6 arg7 harg7 arg8 harg8 arg12 arg13 arg14 x0 x1 x2 x3 x4 x5 x6 zeros zeros_apply rr d

/-- The modulation's gradient so far: the point before's, and the block sums. -/
theorem out_B_9 (rr : Fin 3) (d : Fin 5120) :
    out0_B_9 (F := Ideal) c i arg2 harg2 arg3 harg3 arg4 harg4 arg5 harg5 arg6 harg6 arg7 harg7 arg8 harg8 arg9 harg9 arg10 harg10 arg11 harg11 arg12 harg12 arg13 harg13
    arg14 harg14 hc0 x0 x1 x2 x3 x4 x5 x6 x7 xo9 (ix3 0 rr d)
      = xo9 (ix3 0 rr d) + ∑ r : Fin 128, rowB x0 x1 x2 x3 x4 x5 x6 r rr d := by
  unfold out0_B_9
  rw [View.read_writes_junk_apply_eq_canon, pieces_B_9]
  refine (congrFun (View.canon_cons_unit_lit inb_S1x3x5120_S1x3x5120_0_0_0 _ _ (by decide)) _).trans ?_
  rw [pay3_apply, readCov_sums, sums_four arg2 harg2 arg3 harg3 arg4 harg4 arg5 harg5 arg6 harg6 arg7 harg7 arg8 harg8 arg12 arg13 arg14 x0 x1 x2 x3 x4 x5 x6 zeros zeros_apply rr d]
  refine congrArg (· + _) ?_
  exact (harg11.readAt_unread xo9 (Rect.unit (s := S1x3x5120) ![0, 0, 0] S1x3x5120.size inb_S1x3x5120_S1x3x5120_0_0_0).toLoadRect (ix3 0 rr d)).trans (congrArg xo9 (idx_dmod rr d))

end

end

end Cert.Trip

end
-- ==== Proof.PointValue.lean ====
/- What each grid point writes back of each output, in the terms of PointFrame.lean, and the run with each output array
   named. The text of the generated Gen/KernelIdeal/Value.lean, over PointFrame.lean. -/
module

public import proofs.«01_k».proof.Proof.PointFrame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 8's array: the run's contents for that window after the body (`Gen.outsAt0`: its component 0), read through the window's block. -/
theorem flushed8 (c : Dev nD) (t : Fin cfg0.N) :
    (dats m 0 c).flushed 8 t = (cfg0.win 8).cut (grid0.coords t) ((outsAt0 m c t.val t.isLt).1) := by
  show (cfg0.win 8).cut (grid0.coords t) ((dats m 0 c).after 8 t) = _
  rw [after0_8]

/-- … so at a point where case A runs, what its write-back would write is that case's NAMED TERM for the window (`Gen.out0_A_8`: the pieces
    its run found, read back) at the point's memrefs and input blocks, and for an output the case reads back what the point before left (`Gen.outsAt0` at `t - 1`) — by the frame's rewriting lemma for the case. -/
theorem flushed8_A (c : Dev nD) (t : Fin cfg0.N) (h0 : t.val % 48 = 0) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t)) := by
  simp only [flushed8, outsAt0_A m c t h0]

/-- … so at a point where case B runs, what its write-back would write is that case's NAMED TERM for the window (`Gen.out0_B_8`: the pieces
    its run found, read back) at the point's memrefs and input blocks, and for an output the case reads back what the point before left (`Gen.outsAt0` at `t - 1`) — by the frame's rewriting lemma for the case. -/
theorem flushed8_B (c : Dev nD) (t : Fin cfg0.N) (h0 : ¬t.val % 48 = 0) :
    (dats m 0 c).flushed 8 t = (cfg0.win 8).cut (grid0.coords t) (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1) := by
  simp only [flushed8, outsAt0_B m c t h0]

-- no `blocks8`: window 8's index map is injective over its 288 points, but past 200 points that is decided here only for a window whose block index on one axis is the point's position;
-- the final array is still the frame's `arrAt`, to read with Lib/Pipeline/Value.lean's lemmas by hand

/-- An index that no flushing point's block covers keeps output window 8's array contents at region entry. -/
theorem entry8 (c : Dev nD) (i : S6x6144x5120.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the run's contents for that window after the body (`Gen.outsAt0`: its component 1), read through the window's block. -/
theorem flushed9 (c : Dev nD) (t : Fin cfg0.N) :
    (dats m 0 c).flushed 9 t = (cfg0.win 9).cut (grid0.coords t) ((outsAt0 m c t.val t.isLt).2.1) := by
  show (cfg0.win 9).cut (grid0.coords t) ((dats m 0 c).after 9 t) = _
  rw [after0_9]

/-- … so at a point where case A runs, what its write-back would write is that case's NAMED TERM for the window (`Gen.out0_A_9`: the pieces
    its run found, read back) at the point's memrefs and input blocks, and for an output the case reads back what the point before left (`Gen.outsAt0` at `t - 1`) — by the frame's rewriting lemma for the case. -/
theorem flushed9_A (c : Dev nD) (t : Fin cfg0.N) (h0 : t.val % 48 = 0) :
    (dats m 0 c).flushed 9 t = (cfg0.win 9).cut (grid0.coords t) (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t)) := by
  simp only [flushed9, outsAt0_A m c t h0]

/-- … so at a point where case B runs, what its write-back would write is that case's NAMED TERM for the window (`Gen.out0_B_9`: the pieces
    its run found, read back) at the point's memrefs and input blocks, and for an output the case reads back what the point before left (`Gen.outsAt0` at `t - 1`) — by the frame's rewriting lemma for the case. -/
theorem flushed9_B (c : Dev nD) (t : Fin cfg0.N) (h0 : ¬t.val % 48 = 0) :
    (dats m 0 c).flushed 9 t = (cfg0.win 9).cut (grid0.coords t) (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1) := by
  simp only [flushed9, outsAt0_B m c t h0]

-- no `blocks9`: window 9's index map revisits a block index, or its points could not be enumerated here;
-- the final array is still the frame's `arrAt`, to read with Lib/Pipeline/Value.lean's lemmas by hand

/-- An index that no flushing point's block covers keeps output window 9's array contents at region entry. -/
theorem entry9 (c : Dev nD) (i : S6x3x5120.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- WHAT POINT `t` WRITES BACK to output window 10's array: the run's contents for that window after the body (`Gen.outsAt0`: its component 2), read through the window's block. -/
theorem flushed10 (c : Dev nD) (t : Fin cfg0.N) :
    (dats m 0 c).flushed 10 t = (cfg0.win 10).cut (grid0.coords t) ((outsAt0 m c t.val t.isLt).2.2) := by
  show (cfg0.win 10).cut (grid0.coords t) ((dats m 0 c).after 10 t) = _
  rw [after0_10]

/-- … so at a point where case A runs, what its write-back would write is that case's NAMED TERM for the window (`Gen.out0_A_10`: the pieces
    its run found, read back) at the point's memrefs and input blocks, and for an output the case reads back what the point before left (`Gen.outsAt0` at `t - 1`) — by the frame's rewriting lemma for the case. -/
theorem flushed10_A (c : Dev nD) (t : Fin cfg0.N) (h0 : t.val % 48 = 0) :
    (dats m 0 c).flushed 10 t = (cfg0.win 10).cut (grid0.coords t) (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t)) := by
  simp only [flushed10, outsAt0_A m c t h0]

/-- … so at a point where case B runs, what its write-back would write is that case's NAMED TERM for the window (`Gen.out0_B_10`: the pieces
    its run found, read back) at the point's memrefs and input blocks, and for an output the case reads back what the point before left (`Gen.outsAt0` at `t - 1`) — by the frame's rewriting lemma for the case. -/
theorem flushed10_B (c : Dev nD) (t : Fin cfg0.N) (h0 : ¬t.val % 48 = 0) :
    (dats m 0 c).flushed 10 t = (cfg0.win 10).cut (grid0.coords t) (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1) := by
  simp only [flushed10, outsAt0_B m c t h0]

-- no `blocks10`: window 10's index map is injective over its 288 points, but past 200 points that is decided here only for a window whose block index on one axis is the point's position;
-- the final array is still the frame's `arrAt`, to read with Lib/Pipeline/Value.lean's lemmas by hand

/-- An index that no flushing point's block covers keeps output window 10's array contents at region entry. -/
theorem entry10 (c : Dev nD) (i : S6x48x3x5120.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v1_0) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v1_1) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v1_2) = (dats m 0 c).arrAt 10 cfg0.N :=
  (h c).1 10

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v1_0) = (dats m 0 c).arrAt 8 cfg0.N
      ∧ r.2.mem ((c : Thread nD τ).loc main_v1_1) = (dats m 0 c).arrAt 9 cfg0.N
      ∧ r.2.mem ((c : Thread nD τ).loc main_v1_2) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨post8 m r h c,
      post9 m r h c,
      post10 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

end Cert.KernelIdeal.Value

end
-- ==== Proof.Arrays.lean ====
/- The three results as functions of the eight arguments, index by index: what both programs compute. -/
module

public import proofs.«01_k».proof.Proof.Spec
public import Idealize.ShloMosaic.Lib.Pointwise

@[expose] public section

noncomputable section

namespace Cert.Spec

open Idealize.ShloMosaic Idealize.ShloMosaic.Pointwise Cert.Consts

/-- Token-by-channel arrays, at any format: their elements are extended reals. -/
abbrev Big : Type := (⟨3, ![6, 6144, 5120]⟩ : Shape).Idx → EReal
/-- The scales: one per token and block of 128 channels. -/
abbrev Scales : Type := (⟨3, ![6, 6144, 40]⟩ : Shape).Idx → EReal
/-- The modulation: one per batch and channel. -/
abbrev Mod : Type := (⟨2, ![6, 5120]⟩ : Shape).Idx → EReal

/-- The codes `q` under the scales `s`: token `(b, t)`'s channel `d`. -/
def deq (q : Big) (s : Scales) (b : Fin 6) (t : Fin 6144) (d : Fin 5120) : EReal :=
  q (ix3 b t d) * s (ix3 b t ⟨d.val / 128, Nat.div_lt_of_lt_mul d.isLt⟩)

/-- The token numbered `k` in block `j` of 128 tokens. -/
def tok (j : Fin 48) (k : Fin 128) : Fin 6144 := ⟨j.val * 128 + k.val, by omega⟩

variable (xq : Big) (xs : Scales) (f : Big) (yq : Big) (ys : Scales) (hq : Big) (hs : Scales) (sc : Mod)

/-- The gradient of the block's input at token `(b, t)`, channel `d`. -/
def dxAt (b : Fin 6) (t : Fin 6144) (d : Fin 5120) : EReal :=
  dx (deq xq xs b t) (deq hq hs b t) (deq yq ys b t) (fun e => sc (ix2 b e)) d

/-- What token `(b, t)` adds to row `r` of the block sums at channel `d`: the shift's gradient, the scale's, the gate's. -/
def rowAt (b : Fin 6) (t : Fin 6144) (r : Fin 3) (d : Fin 5120) : EReal :=
  if r.val < 1 then deq hq hs b t d
  else if r.val - 1 < 1 then deq hq hs b t d * xhat (deq xq xs b t) d
  else deq yq ys b t d * f (ix3 b t d)

/-- The block sums: row `r` over the 128 tokens of block `j`. -/
def blkAt (b : Fin 6) (j : Fin 48) (r : Fin 3) (d : Fin 5120) : EReal :=
  ∑ k : Fin 128, rowAt xq xs f yq ys hq hs b (tok j k) r d

/-- The modulation's gradient: the block sums over all the blocks. -/
def dmodAt (b : Fin 6) (r : Fin 3) (d : Fin 5120) : EReal :=
  ∑ j : Fin 48, blkAt xq xs f yq ys hq hs b j r d

end Cert.Spec

end
-- ==== Proof.PointArrays.lean ====
/- The three arrays the launch leaves, over the extended reals: each grid point's blocks are the blocks of the results that
   Proof/Arrays.lean states, the modulation's gradient by induction over a batch's 48 points. -/
module

public import proofs.«01_k».proof.Proof.PointOut
public import proofs.«01_k».proof.Proof.PointValue
public import proofs.«01_k».proof.Proof.Arrays
public import Idealize.ShloMosaic.Lib.Pipeline.ValueKit

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)
open Idealize.ShloMosaic.Pointwise Cert.Spec Cert.Trip

variable (m : (ℓ : Loc nD τ sig) → Buf (Elt Ideal) ℓ) (c : Dev nD)

/-! ## Where a point's blocks are -/

/-- There are 288 grid points. -/
theorem point_lt (t : Fin cfg0.N) : t.val < 288 := Nat.lt_of_lt_of_eq t.isLt N_0

/-- The point's batch. -/
def bOf (t : Fin cfg0.N) : Fin 6 := ⟨t.val / 48, by have := point_lt t; omega⟩
/-- The point's block of tokens. -/
def jOf (t : Fin cfg0.N) : Fin 48 := ⟨t.val % 48, Nat.mod_lt _ (by decide)⟩

/-- Window 0's block at each point, by the point's number. -/
theorem idx0 : ∀ t : Fin cfg0.N, win0_0.index t = ![t.val / 48, t.val % 48, 0] := (by decide +kernel : ∀ t : Fin grid0.N, _)
/-- Window 1's block at each point, by the point's number. -/
theorem idx1 : ∀ t : Fin cfg0.N, win0_1.index t = ![t.val / 48, t.val % 48, 0] := (by decide +kernel : ∀ t : Fin grid0.N, _)
/-- Window 2's block at each point, by the point's number. -/
theorem idx2 : ∀ t : Fin cfg0.N, win0_2.index t = ![t.val / 48, t.val % 48, 0] := (by decide +kernel : ∀ t : Fin grid0.N, _)
/-- Window 3's block at each point, by the point's number. -/
theorem idx3 : ∀ t : Fin cfg0.N, win0_3.index t = ![t.val / 48, t.val % 48, 0] := (by decide +kernel : ∀ t : Fin grid0.N, _)
/-- Window 4's block at each point, by the point's number. -/
theorem idx4 : ∀ t : Fin cfg0.N, win0_4.index t = ![t.val / 48, t.val % 48, 0] := (by decide +kernel : ∀ t : Fin grid0.N, _)
/-- Window 5's block at each point, by the point's number. -/
theorem idx5 : ∀ t : Fin cfg0.N, win0_5.index t = ![t.val / 48, t.val % 48, 0] := (by decide +kernel : ∀ t : Fin grid0.N, _)
/-- Window 6's block at each point, by the point's number. -/
theorem idx6 : ∀ t : Fin cfg0.N, win0_6.index t = ![t.val / 48, t.val % 48, 0] := (by decide +kernel : ∀ t : Fin grid0.N, _)
/-- Window 7's block at each point, by the point's number. -/
theorem idx7 : ∀ t : Fin cfg0.N, win0_7.index t = ![t.val / 48, 0, 0] := (by decide +kernel : ∀ t : Fin grid0.N, _)
/-- Window 8's block at each point, by the point's number. -/
theorem idx8 : ∀ t : Fin cfg0.N, win0_8.index t = ![t.val / 48, t.val % 48, 0] := (by decide +kernel : ∀ t : Fin grid0.N, _)
/-- Window 9's block at each point, by the point's number. -/
theorem idx9 : ∀ t : Fin cfg0.N, win0_9.index t = ![t.val / 48, 0, 0] := (by decide +kernel : ∀ t : Fin grid0.N, _)
/-- Window 10's block at each point, by the point's number. -/
theorem idx10 : ∀ t : Fin cfg0.N, win0_10.index t = ![t.val / 48, t.val % 48, 0, 0] := (by decide +kernel : ∀ t : Fin grid0.N, _)

/-! ## What a point reads of the arguments -/

/-- Input 0's block at a point, at an index: the argument at the point's batch and tokens. -/
theorem iblk0_apply (t : Fin cfg0.N) (r : Fin 128) (d : Fin 5120) :
    iblk m c 0 t (ix3 0 r d) = m ((c : Thread nD τ).loc main_arg0) (ix3 (bOf t) (tok (jOf t) r) d) := by
  blk_ext! [iblk, V, idx0 t, bOf, jOf, tok]

/-- Input 1's block at a point, at an index: the argument at the point's batch and tokens. -/
theorem iblk1_apply (t : Fin cfg0.N) (r : Fin 128) (d : Fin 40) :
    iblk m c 1 t (ix3 0 r d) = m ((c : Thread nD τ).loc main_arg1) (ix3 (bOf t) (tok (jOf t) r) d) := by
  blk_ext! [iblk, V, idx1 t, bOf, jOf, tok]

/-- Input 2's block at a point, at an index: the argument at the point's batch and tokens. -/
theorem iblk2_apply (t : Fin cfg0.N) (r : Fin 128) (d : Fin 5120) :
    iblk m c 2 t (ix3 0 r d) = m ((c : Thread nD τ).loc main_arg2) (ix3 (bOf t) (tok (jOf t) r) d) := by
  blk_ext! [iblk, V, idx2 t, bOf, jOf, tok]

/-- Input 3's block at a point, at an index: the argument at the point's batch and tokens. -/
theorem iblk3_apply (t : Fin cfg0.N) (r : Fin 128) (d : Fin 5120) :
    iblk m c 3 t (ix3 0 r d) = m ((c : Thread nD τ).loc main_arg3) (ix3 (bOf t) (tok (jOf t) r) d) := by
  blk_ext! [iblk, V, idx3 t, bOf, jOf, tok]

/-- Input 4's block at a point, at an index: the argument at the point's batch and tokens. -/
theorem iblk4_apply (t : Fin cfg0.N) (r : Fin 128) (d : Fin 40) :
    iblk m c 4 t (ix3 0 r d) = m ((c : Thread nD τ).loc main_arg4) (ix3 (bOf t) (tok (jOf t) r) d) := by
  blk_ext! [iblk, V, idx4 t, bOf, jOf, tok]

/-- Input 5's block at a point, at an index: the argument at the point's batch and tokens. -/
theorem iblk5_apply (t : Fin cfg0.N) (r : Fin 128) (d : Fin 5120) :
    iblk m c 5 t (ix3 0 r d) = m ((c : Thread nD τ).loc main_arg5) (ix3 (bOf t) (tok (jOf t) r) d) := by
  blk_ext! [iblk, V, idx5 t, bOf, jOf, tok]

/-- Input 6's block at a point, at an index: the argument at the point's batch and tokens. -/
theorem iblk6_apply (t : Fin cfg0.N) (r : Fin 128) (d : Fin 40) :
    iblk m c 6 t (ix3 0 r d) = m ((c : Thread nD τ).loc main_arg6) (ix3 (bOf t) (tok (jOf t) r) d) := by
  blk_ext! [iblk, V, idx6 t, bOf, jOf, tok]

/-- Input 7's block at a point, at a channel: the modulation's scale of the point's batch. -/
theorem iblk7_apply (t : Fin cfg0.N) (d : Fin 5120) :
    iblk m c 7 t (ix3 0 0 d) = m ((c : Thread nD τ).loc main_arg7) (ix2 (bOf t) d) := by
  blk_simp [iblk, V, idx7 t]
  entry_read
  pointwise
  blk_ext [idx7 t, bOf]

/-- The point's rows, dequantised, are the batch's tokens, dequantised. -/
theorem deq_x (t : Fin cfg0.N) (r : Fin 128) : deqB (iblk m c 0 t) (iblk m c 1 t) r = deq (m ((c : Thread nD τ).loc main_arg0)) (m ((c : Thread nD τ).loc main_arg1)) (bOf t) (tok (jOf t) r) := by
  funext d
  rw [deqB, deq, iblk0_apply, iblk1_apply]

/-- The point's second upstream gradient, dequantised, is the arrays'. -/
theorem deq_y (t : Fin cfg0.N) (r : Fin 128) : deqB (iblk m c 3 t) (iblk m c 4 t) r = deq (m ((c : Thread nD τ).loc main_arg3)) (m ((c : Thread nD τ).loc main_arg4)) (bOf t) (tok (jOf t) r) := by
  funext d
  rw [deqB, deq, iblk3_apply, iblk4_apply]

/-- The point's upstream gradient of the modulated activation, dequantised, is the arrays'. -/
theorem deq_h (t : Fin cfg0.N) (r : Fin 128) : deqB (iblk m c 5 t) (iblk m c 6 t) r = deq (m ((c : Thread nD τ).loc main_arg5)) (m ((c : Thread nD τ).loc main_arg6)) (bOf t) (tok (jOf t) r) := by
  funext d
  rw [deqB, deq, iblk5_apply, iblk6_apply]

/-- The point's input gradient is its tokens'. -/
theorem dxB_eq (t : Fin cfg0.N) (r : Fin 128) (d : Fin 5120) :
    dxB (iblk m c 0 t) (iblk m c 1 t) (iblk m c 3 t) (iblk m c 4 t) (iblk m c 5 t) (iblk m c 6 t) (iblk m c 7 t) r d
      = dxAt (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (bOf t) (tok (jOf t) r) d := by
  rw [dxB, dxAt, deq_x, deq_y, deq_h]
  exact congrArg (fun z => dx _ _ _ z d) (funext fun e => iblk7_apply m c t e)

/-- The point's block sums are its tokens'. -/
theorem rowB_eq (t : Fin cfg0.N) (rr : Fin 3) (d : Fin 5120) :
    (∑ r : Fin 128, rowB (iblk m c 0 t) (iblk m c 1 t) (iblk m c 2 t) (iblk m c 3 t) (iblk m c 4 t) (iblk m c 5 t) (iblk m c 6 t) r rr d)
      = blkAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (bOf t) (jOf t) rr d := by
  rw [blkAt]
  refine Finset.sum_congr rfl fun r _ => ?_
  rw [rowB, rowAt, deq_x, deq_y, deq_h, iblk2_apply]

/-! ## What the outputs hold after a point -/

/-- What the input gradient's block holds after a point. -/
theorem outs8 (t : Fin cfg0.N) (y : S1x128x5120.Idx) :
    (outsAt0 m c t.val t.isLt).1 y = dxAt (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (bOf t) (tok (jOf t) (y 1)) (y 2) := by
  by_cases h0 : t.val % 48 = 0
  · rw [outsAt0_A m c t h0]
    dsimp only
    rw [out_A_8]
    exact dxB_eq m c t (y 1) (y 2)
  · rw [outsAt0_B m c t h0]
    dsimp only
    rw [out_B_8]
    exact dxB_eq m c t (y 1) (y 2)

/-- What the block sums hold after a point. -/
theorem outs10 (t : Fin cfg0.N) (rr : Fin 3) (d : Fin 5120) :
    (outsAt0 m c t.val t.isLt).2.2 (ix4 0 0 rr d) = blkAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (bOf t) (jOf t) rr d := by
  by_cases h0 : t.val % 48 = 0
  · rw [outsAt0_A m c t h0]
    dsimp only
    rw [out_A_10, rowB_eq]
  · rw [outsAt0_B m c t h0]
    dsimp only
    rw [out_B_10, rowB_eq]

/-- At a batch's first point the modulation's gradient is the point's block sums. -/
theorem outs9_first (t : Fin cfg0.N) (h0 : t.val % 48 = 0) (rr : Fin 3) (d : Fin 5120) :
    (outsAt0 m c t.val t.isLt).2.1 (ix3 0 rr d) = blkAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (bOf t) (jOf t) rr d := by
  rw [outsAt0_A m c t h0]
  dsimp only
  rw [out_A_9, rowB_eq]

/-- At a later point it is what the point before left, and the point's block sums. -/
theorem outs9_next (t : Fin cfg0.N) (h0 : ¬t.val % 48 = 0) (rr : Fin 3) (d : Fin 5120) :
    (outsAt0 m c t.val t.isLt).2.1 (ix3 0 rr d)
      = (outsAt0 m c (t.val - 1) (Nat.lt_of_le_of_lt (Nat.sub_le _ _) t.isLt)).2.1 (ix3 0 rr d)
        + blkAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (bOf t) (jOf t) rr d := by
  rw [outsAt0_B m c t h0]
  dsimp only
  rw [out_B_9, rowB_eq]

/-- After the first `j + 1` points of batch `b` the modulation's gradient is the sum of their block sums. -/
theorem outs9 (b : Fin 6) (j : Nat) (hj : j < 48) (h : 48 * b.val + j < cfg0.N) (rr : Fin 3) (d : Fin 5120) :
    (outsAt0 m c (48 * b.val + j) h).2.1 (ix3 0 rr d)
      = ∑ i : Fin (j + 1), blkAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) b ⟨i.val, by omega⟩ rr d := by
  have hb (k : Nat) (hk : k < 48) (h' : 48 * b.val + k < cfg0.N) : bOf ⟨48 * b.val + k, h'⟩ = b := Fin.ext (by show (48 * b.val + k) / 48 = b.val; omega)
  have hi (k : Nat) (hk : k < 48) (h' : 48 * b.val + k < cfg0.N) : jOf ⟨48 * b.val + k, h'⟩ = ⟨k, hk⟩ := Fin.ext (by show (48 * b.val + k) % 48 = k; omega)
  induction j with
  | zero =>
    refine (outs9_first m c ⟨48 * b.val + 0, h⟩ (by show (48 * b.val + 0) % 48 = 0; omega) rr d).trans ?_
    rw [hb 0 hj h, hi 0 hj h, Fin.sum_univ_one]
    rfl
  | succ j ih =>
    refine (outs9_next m c ⟨48 * b.val + (j + 1), h⟩ (by show ¬(48 * b.val + (j + 1)) % 48 = 0; omega) rr d).trans ?_
    rw [hb (j + 1) hj h, hi (j + 1) hj h, Fin.sum_univ_castSucc]
    exact congrArg (· + _) (ih (by omega) (Nat.lt_of_succ_lt h))

/-! ## The arrays -/

/-- The input gradient's array. -/
theorem arr8 : (dats m 0 c).arrAt 8 cfg0.N = fun y : S6x6144x5120.Idx => dxAt (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (y 0) (y 1) (y 2) := by
  refine (dats m 0 c).arrAt_eq_of_covers 8 _ (by decide +kernel) fun t hf y => ?_
  blk_simp
  rw [after0_8, outs8]
  have e : (win0_8.blk t).view.emb y = ix3 (bOf t) (tok (jOf t) (y 1)) (y 2) := by
    idx_bounds y
    blk_ext [idx8 t, bOf, jOf, tok]
  rw [e]
  rfl

/-- The block sums' array. -/
theorem arr10 : (dats m 0 c).arrAt 10 cfg0.N = fun y : S6x48x3x5120.Idx => blkAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (y 0) (y 1) (y 2) (y 3) := by
  refine (dats m 0 c).arrAt_eq_of_covers 10 _ (by decide +kernel) fun t hf y => ?_
  blk_simp
  rw [after0_10]
  have e : (win0_10.blk t).view.emb y = ix4 (bOf t) (jOf t) (y 2) (y 3) := by
    idx_bounds y
    blk_ext [idx10 t, bOf, jOf]
  have hy : y = ix4 0 0 (y 2) (y 3) := by
    idx_bounds y
    blk_ext []
  rw [e]
  exact (congrArg _ hy).trans (outs10 m c t (y 2) (y 3))

/-- The modulation's gradient's array. -/
theorem arr9 : (dats m 0 c).arrAt 9 cfg0.N = fun y : S6x3x5120.Idx => dmodAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (y 0) (y 1) (y 2) := by
  refine (dats m 0 c).arrAt_eq_of_covers 9 _ (by decide +kernel) fun t hf y => ?_
  blk_simp
  rw [after0_9]
  have ht : t.val % 48 = 47 := (flush0_9 t).mp hf
  have e : (win0_9.blk t).view.emb y = ix3 (bOf t) (y 1) (y 2) := by
    idx_bounds y
    blk_ext [idx9 t, bOf]
  have hy : y = ix3 0 (y 1) (y 2) := by
    idx_bounds y
    blk_ext []
  have h47 : 48 * (bOf t).val + 47 = t.val := by
    show 48 * (t.val / 48) + 47 = t.val
    omega
  rw [e]
  have h := outs9 m c (bOf t) 47 (by decide) (h47 ▸ t.isLt) (y 1) (y 2)
  refine Eq.trans ?_ h
  simp only [h47]
  exact congrArg _ hy

end Cert.KernelIdeal.Value

end
-- ==== Proof.RefValue.lean ====
/- The reference's three results at an index: the arrays of Proof/Arrays.lean. -/
module

public import proofs.«01_k».proof.Proof.Arrays
public import proofs.«01_k».proof.Proof.Gen.ReferenceIdeal.Value

@[expose] public section

noncomputable section

namespace Cert.RefValue

open Cert.ReferenceIdeal Cert.ReferenceIdeal.Gen Idealize.ShloMosaic Idealize.ShloMosaic.TcCoe
open Idealize.ShloMosaic.Pointwise Cert.Spec Cert.Consts

variable (a0 : Vec Ideal S6x6144x5120 .fp8e4m3) (a1 : Vec Ideal S6x6144x40 .f32) (a2 : Vec Ideal S6x6144x5120 .bf16)
  (a3 : Vec Ideal S6x6144x5120 .fp8e5m2) (a4 : Vec Ideal S6x6144x40 .f32) (a5 : Vec Ideal S6x6144x5120 .fp8e5m2)
  (a6 : Vec Ideal S6x6144x40 .f32) (a7 : Vec Ideal S6x5120 .f32)

/-- The second upstream gradient, dequantised. -/
theorem dy_apply (b : Fin 6) (t : Fin 6144) (d : Fin 5120) : k0_pay2 a3 a4 (ix3 b t d) = deq a3 a4 b t d := by
  pointwise [k0_pay2]; rfl

/-- The upstream gradient of the modulated activation, dequantised. -/
theorem dh_apply (b : Fin 6) (t : Fin 6144) (d : Fin 5120) : k0_pay3 a5 a6 (ix3 b t d) = deq a5 a6 b t d := by
  pointwise [k0_pay3]; rfl

/-- The activation, centred. -/
theorem cen_apply (b : Fin 6) (t : Fin 6144) (d : Fin 5120) : k0_pay4 a0 a1 (ix3 b t d) = cen (deq a0 a1 b t) d := by
  pointwise [k0_pay4]; rw [div_5120]; rfl

/-- The variance plus the small number. -/
theorem var_apply (b : Fin 6) (t : Fin 6144) :
    k0_pay5 a0 a1 (ix3 b t 0) = mean (fun d => cen (deq a0 a1 b t) d * cen (deq a0 a1 b t) d) + eps := by
  pointwise [k0_pay5]; rw [div_5120]; simp only [cen_apply]; rfl

/-- The reference's first result. -/
theorem G8_apply (b : Fin 6) (t : Fin 6144) (d : Fin 5120) :
    Value.G8 a0 a1 a2 a3 a4 a5 a6 a7 (ix3 b t d) = dxAt a0 a1 a3 a4 a5 a6 a7 b t d := by
  unfold Value.G8 k0_pay10 k0_pay11 k0_pay12 k0_pay13
  simp only [View.ld_unit_zero (S := S6x6144x5120) Value.hz8, View.ld_unit_zero (S := S6x6144x40) Value.hz8]
  pointwise [k0_pay8, k0_pay7, k0_pay6]
  simp only [div_5120, dy_apply, dh_apply, cen_apply, var_apply]
  rfl

/-- The reference's third result. -/
theorem G10_apply (b : Fin 6) (j : Fin 48) (r : Fin 3) (d : Fin 5120) :
    Value.G10 a0 a1 a2 a3 a4 a5 a6 a7 (ix4 b j r d) = blkAt a0 a1 a2 a3 a4 a5 a6 b j r d := by
  unfold Value.G10 k0_pay14 k0_pay10 k0_pay11 k0_pay12 k0_pay13
  simp only [View.ld_unit_zero (S := S6x6144x5120) Value.hz8, View.ld_unit_zero (S := S6x6144x40) Value.hz8]
  pointwise [k0_pay9, k0_pay7, k0_pay6]
  simp only [dy_apply, dh_apply, cen_apply, var_apply, blkAt, rowAt]
  split_ifs <;> rfl

/-- The reference's second result. -/
theorem G9_apply (b : Fin 6) (r : Fin 3) (d : Fin 5120) :
    Value.G9 a0 a1 a2 a3 a4 a5 a6 a7 (ix3 b r d) = dmodAt a0 a1 a2 a3 a4 a5 a6 b r d := by
  unfold Value.G9
  pointwise [k0_pay1]
  exact Finset.sum_congr rfl fun j _ => G10_apply a0 a1 a2 a3 a4 a5 a6 a7 b j r d

end Cert.RefValue

end
-- ==== Proof.lean ====
module

public import proofs.«01_k».proof.Defs
public import proofs.«01_k».proof.Proof.KernelFrame
public import proofs.«01_k».proof.Proof.Gen.ReferenceIdeal.Frame
public import proofs.«01_k».proof.Proof.PointArrays
public import proofs.«01_k».proof.Proof.RefValue
public import Idealize.ShloMosaic.Adequacy
public import Idealize.ShloMosaic.Init

@[expose] public section

noncomputable section

namespace Cert.Proof

open Idealize.ShloMosaic Idealize.ShloMosaic.TcCoe Idealize.ShloMosaic.Pointwise Idealize.SL.Sem
open Cert.ReferenceIdeal Cert.ReferenceIdeal.Gen Cert.Spec

/-- The kernel's one named constant is the real number it stands for. -/
theorem preserves : Cert.preserves_Kernel_KernelIdeal :=
  IdealRules.named_const.statement Cert.KernelIdeal.κ "inv_d" .f32 0x394CCCCD#32 ((1 / 5120 : ℝ) : EReal) rfl

section
variable (a0 : Vec Ideal S6x6144x5120 .fp8e4m3) (a1 : Vec Ideal S6x6144x40 .f32) (a2 : Vec Ideal S6x6144x5120 .bf16)
  (a3 : Vec Ideal S6x6144x5120 .fp8e5m2) (a4 : Vec Ideal S6x6144x40 .f32) (a5 : Vec Ideal S6x6144x5120 .fp8e5m2)
  (a6 : Vec Ideal S6x6144x40 .f32) (a7 : Vec Ideal S6x5120 .f32)

/-- The reference's input gradient, as one function of the index. -/
theorem ref8 : Value.G8 a0 a1 a2 a3 a4 a5 a6 a7 =
    fun y : S6x6144x5120.Idx => dxAt a0 a1 a3 a4 a5 a6 a7 (y 0) (y 1) (y 2) :=
  funext fun y => (congrArg _ (eq_ix3 y)).trans (RefValue.G8_apply a0 a1 a2 a3 a4 a5 a6 a7 (y 0) (y 1) (y 2))

/-- The reference's modulation gradient, as one function of the index. -/
theorem ref9 : Value.G9 a0 a1 a2 a3 a4 a5 a6 a7 =
    fun y : S6x3x5120.Idx => dmodAt a0 a1 a2 a3 a4 a5 a6 (y 0) (y 1) (y 2) :=
  funext fun y => (congrArg _ (eq_ix3 y)).trans (RefValue.G9_apply a0 a1 a2 a3 a4 a5 a6 a7 (y 0) (y 1) (y 2))

/-- The reference's block sums, as one function of the index. -/
theorem ref10 : Value.G10 a0 a1 a2 a3 a4 a5 a6 a7 =
    fun y : S6x48x3x5120.Idx => blkAt a0 a1 a2 a3 a4 a5 a6 (y 0) (y 1) (y 2) (y 3) :=
  funext fun y => (congrArg _ (eq_ix4 y)).trans (RefValue.G10_apply a0 a1 a2 a3 a4 a5 a6 a7 (y 0) (y 1) (y 2) (y 3))

end

/-- The kernel and the reference, from the same arguments, leave the same input gradient, the same modulation gradient and
    the same block sums over the extended reals. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Value.G8 (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5))
      (m ((c : Thread Cert.KernelIdeal.nD Cert.KernelIdeal.τ).loc Cert.KernelIdeal.main_arg6))
      (m ((c : Thread Cert.KernelIdeal.nD Cert.KernelIdeal.τ).loc Cert.KernelIdeal.main_arg7)),
    fun c => Value.G9 (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5))
      (m ((c : Thread Cert.KernelIdeal.nD Cert.KernelIdeal.τ).loc Cert.KernelIdeal.main_arg6))
      (m ((c : Thread Cert.KernelIdeal.nD Cert.KernelIdeal.τ).loc Cert.KernelIdeal.main_arg7)),
    fun c => Value.G10 (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5))
      (m ((c : Thread Cert.KernelIdeal.nD Cert.KernelIdeal.τ).loc Cert.KernelIdeal.main_arg6))
      (m ((c : Thread Cert.KernelIdeal.nD Cert.KernelIdeal.τ).loc Cert.KernelIdeal.main_arg7)),
    (θ_run _ _ _).mono (fun r h c => ⟨(h c).1.trans ((Cert.KernelIdeal.Value.arr8 m c).trans (ref8 ..).symm),
      (h c).2.1.trans ((Cert.KernelIdeal.Value.arr9 m c).trans (ref9 ..).symm),
      (h c).2.2.1.trans ((Cert.KernelIdeal.Value.arr10 m c).trans (ref10 ..).symm), (h c).2.2.2⟩)
      (Cert.KernelIdeal.Value.run_blocks m g),
    (θ_run _ _ _).mono (fun r h c => ?_) (Cert.ReferenceIdeal.Value.run (F := Ideal) m' g')⟩
  obtain ⟨e0, e1, e2, e3, e4, e5, e6, e7⟩ := hargs c
  refine ⟨(h c).1.trans ?_, (h c).2.1.trans ?_, (h c).2.2.1.trans ?_, (h c).2.2.2⟩ <;>
    rw [e0, e1, e2, e3, e4, e5, e6, e7]

/-- The claim: all three programs are framed, and the two idealised programs leave the same arrays. -/
theorem claim : Cert.Claim :=
  ⟨Cert.Kernel.Gen.facts, Cert.KernelIdeal.Gen.facts, Cert.ReferenceIdeal.Gen.facts,
    KernelFrame.frame, fun m g _ => Cert.KernelIdeal.Gen.frame m g,
    fun m g _ => Cert.ReferenceIdeal.Gen.frame m g, preserves, algebraic⟩

end Cert.Proof

end
